-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S2x256x1024 : Shape := ⟨3, ![2, 256, 1024]⟩
abbrev S4096x1024 : Shape := ⟨2, ![4096, 1024]⟩
abbrev S16 : Shape := ⟨1, ![16]⟩
abbrev S8 : Shape := ⟨1, ![8]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 2
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .local _ .vmem, ⟨0, _⟩ => ⟨S2x256x1024, .f32⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4096x1024, .bf16⟩
  | .local _ .vmem, ⟨5, _⟩ => ⟨S4096x1024, .bf16⟩
  | _, _ => ⟨S16384x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 208 → Bool
  | ⟨i, _⟩ => dmaSemScopedAt i

abbrev sig : RefSig :=
  (ofTc nBuf bufTy 1 208 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_7 : BitVec 32 := 4#32
  let v13 : BitVec 32 := Scalar.muli v9 c4_i32_7
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v19 : BitVec 32 := Scalar.muli v2 c4_i32_11
  let v20 : BitVec 32 := Scalar.addi c0_i32_12 v19
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_13 : BitVec 32 := 2#32
  let v21 : BitVec 32 := Scalar.muli v10 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_19 : BitVec 32 := 1#32
  let v29 : BitVec 32 := Scalar.muli v11 c1_i32_19
  let v30 : BitVec 32 := Scalar.addi v28 v29
  v30.toNat
def k0_off1 (d0 : Dev nD) (c0_i32_31 : BitVec 32) : Fin 2 → Nat :=
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_20 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.addi v31 v8
  let c4096_i32 : BitVec 32 := 4096#32
  let v33 : BitVec 32 := Scalar.muli v32 c4096_i32
  let v47 : BitVec 32 := Scalar.addi v33 c0_i32_31
  let c0_i32_36 : BitVec 32 := 0#32
  ![v47.toNat, 0]
def k0_dev4 (d0 : Dev nD) : Nat :=
  let c0_i32_60 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_59 : BitVec 32 := 4#32
  let v77 : BitVec 32 := Scalar.muli v9 c4_i32_59
  let v78 : BitVec 32 := Scalar.addi c0_i32_60 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v79 : BitVec 32 := Scalar.muli v5 c2_i32_61
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_62 : BitVec 32 := 1#32
  let v81 : BitVec 32 := Scalar.muli v8 c1_i32_62
  let v82 : BitVec 32 := Scalar.addi v80 v81
  v82.toNat
def k0_dev5 (d0 : Dev nD) : Nat :=
  let c0_i32_84 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_83 : BitVec 32 := 4#32
  let v107 : BitVec 32 := Scalar.muli v9 c4_i32_83
  let v108 : BitVec 32 := Scalar.addi c0_i32_84 v107
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v109 : BitVec 32 := Scalar.muli v5 c2_i32_85
  let v110 : BitVec 32 := Scalar.addi v108 v109
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v111 : BitVec 32 := Scalar.muli v8 c1_i32_86
  let v112 : BitVec 32 := Scalar.addi v110 v111
  v112.toNat
def k0_dev6 (d0 : Dev nD) : Nat :=
  let c0_i32_109 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_108 : BitVec 32 := 4#32
  let v137 : BitVec 32 := Scalar.muli v9 c4_i32_108
  let v138 : BitVec 32 := Scalar.addi c0_i32_109 v137
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_110 : BitVec 32 := 2#32
  let v139 : BitVec 32 := Scalar.muli v5 c2_i32_110
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_111 : BitVec 32 := 1#32
  let v141 : BitVec 32 := Scalar.muli v8 c1_i32_111
  let v142 : BitVec 32 := Scalar.addi v140 v141
  v142.toNat
def k0_dev7 (d0 : Dev nD) : Nat :=
  let c0_i32_133 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_132 : BitVec 32 := 4#32
  let v167 : BitVec 32 := Scalar.muli v9 c4_i32_132
  let v168 : BitVec 32 := Scalar.addi c0_i32_133 v167
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_134 : BitVec 32 := 2#32
  let v169 : BitVec 32 := Scalar.muli v5 c2_i32_134
  let v170 : BitVec 32 := Scalar.addi v168 v169
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_135 : BitVec 32 := 1#32
  let v171 : BitVec 32 := Scalar.muli v8 c1_i32_135
  let v172 : BitVec 32 := Scalar.addi v170 v171
  v172.toNat
def k0_dev8 (d0 : Dev nD) : Nat :=
  let c0_i32_157 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_156 : BitVec 32 := 4#32
  let v197 : BitVec 32 := Scalar.muli v9 c4_i32_156
  let v198 : BitVec 32 := Scalar.addi c0_i32_157 v197
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_158 : BitVec 32 := 2#32
  let v199 : BitVec 32 := Scalar.muli v5 c2_i32_158
  let v200 : BitVec 32 := Scalar.addi v198 v199
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_159 : BitVec 32 := 1#32
  let v201 : BitVec 32 := Scalar.muli v8 c1_i32_159
  let v202 : BitVec 32 := Scalar.addi v200 v201
  v202.toNat
def k0_dev9 (d0 : Dev nD) : Nat :=
  let c0_i32_181 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_180 : BitVec 32 := 4#32
  let v227 : BitVec 32 := Scalar.muli v9 c4_i32_180
  let v228 : BitVec 32 := Scalar.addi c0_i32_181 v227
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_182 : BitVec 32 := 2#32
  let v229 : BitVec 32 := Scalar.muli v5 c2_i32_182
  let v230 : BitVec 32 := Scalar.addi v228 v229
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_183 : BitVec 32 := 1#32
  let v231 : BitVec 32 := Scalar.muli v8 c1_i32_183
  let v232 : BitVec 32 := Scalar.addi v230 v231
  v232.toNat
def k0_dev10 (d0 : Dev nD) : Nat :=
  let c0_i32_205 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_204 : BitVec 32 := 4#32
  let v257 : BitVec 32 := Scalar.muli v9 c4_i32_204
  let v258 : BitVec 32 := Scalar.addi c0_i32_205 v257
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_206 : BitVec 32 := 2#32
  let v259 : BitVec 32 := Scalar.muli v5 c2_i32_206
  let v260 : BitVec 32 := Scalar.addi v258 v259
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_207 : BitVec 32 := 1#32
  let v261 : BitVec 32 := Scalar.muli v8 c1_i32_207
  let v262 : BitVec 32 := Scalar.addi v260 v261
  v262.toNat
def k0_dev11 (d0 : Dev nD) : Nat :=
  let c0_i32_229 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_228 : BitVec 32 := 4#32
  let v287 : BitVec 32 := Scalar.muli v9 c4_i32_228
  let v288 : BitVec 32 := Scalar.addi c0_i32_229 v287
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_230 : BitVec 32 := 2#32
  let v289 : BitVec 32 := Scalar.muli v5 c2_i32_230
  let v290 : BitVec 32 := Scalar.addi v288 v289
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_231 : BitVec 32 := 1#32
  let v291 : BitVec 32 := Scalar.muli v8 c1_i32_231
  let v292 : BitVec 32 := Scalar.addi v290 v291
  v292.toNat
def k0_dev12 (d0 : Dev nD) : Nat :=
  let c0_i32_253 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_252 : BitVec 32 := 4#32
  let v317 : BitVec 32 := Scalar.muli v9 c4_i32_252
  let v318 : BitVec 32 := Scalar.addi c0_i32_253 v317
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_254 : BitVec 32 := 2#32
  let v319 : BitVec 32 := Scalar.muli v5 c2_i32_254
  let v320 : BitVec 32 := Scalar.addi v318 v319
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_255 : BitVec 32 := 1#32
  let v321 : BitVec 32 := Scalar.muli v8 c1_i32_255
  let v322 : BitVec 32 := Scalar.addi v320 v321
  v322.toNat
def k0_dev13 (d0 : Dev nD) : Nat :=
  let c0_i32_277 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_276 : BitVec 32 := 4#32
  let v347 : BitVec 32 := Scalar.muli v9 c4_i32_276
  let v348 : BitVec 32 := Scalar.addi c0_i32_277 v347
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_278 : BitVec 32 := 2#32
  let v349 : BitVec 32 := Scalar.muli v5 c2_i32_278
  let v350 : BitVec 32 := Scalar.addi v348 v349
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_279 : BitVec 32 := 1#32
  let v351 : BitVec 32 := Scalar.muli v8 c1_i32_279
  let v352 : BitVec 32 := Scalar.addi v350 v351
  v352.toNat
def k0_dev14 (d0 : Dev nD) : Nat :=
  let c0_i32_301 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_300 : BitVec 32 := 4#32
  let v377 : BitVec 32 := Scalar.muli v9 c4_i32_300
  let v378 : BitVec 32 := Scalar.addi c0_i32_301 v377
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_302 : BitVec 32 := 2#32
  let v379 : BitVec 32 := Scalar.muli v5 c2_i32_302
  let v380 : BitVec 32 := Scalar.addi v378 v379
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_303 : BitVec 32 := 1#32
  let v381 : BitVec 32 := Scalar.muli v8 c1_i32_303
  let v382 : BitVec 32 := Scalar.addi v380 v381
  v382.toNat
def k0_dev15 (d0 : Dev nD) : Nat :=
  let c0_i32_325 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_324 : BitVec 32 := 4#32
  let v407 : BitVec 32 := Scalar.muli v9 c4_i32_324
  let v408 : BitVec 32 := Scalar.addi c0_i32_325 v407
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_326 : BitVec 32 := 2#32
  let v409 : BitVec 32 := Scalar.muli v5 c2_i32_326
  let v410 : BitVec 32 := Scalar.addi v408 v409
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_327 : BitVec 32 := 1#32
  let v411 : BitVec 32 := Scalar.muli v8 c1_i32_327
  let v412 : BitVec 32 := Scalar.addi v410 v411
  v412.toNat
def k0_dev16 (d0 : Dev nD) : Nat :=
  let c0_i32_349 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_348 : BitVec 32 := 4#32
  let v437 : BitVec 32 := Scalar.muli v9 c4_i32_348
  let v438 : BitVec 32 := Scalar.addi c0_i32_349 v437
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_350 : BitVec 32 := 2#32
  let v439 : BitVec 32 := Scalar.muli v5 c2_i32_350
  let v440 : BitVec 32 := Scalar.addi v438 v439
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_351 : BitVec 32 := 1#32
  let v441 : BitVec 32 := Scalar.muli v8 c1_i32_351
  let v442 : BitVec 32 := Scalar.addi v440 v441
  v442.toNat
def k0_dev17 (d0 : Dev nD) : Nat :=
  let c0_i32_373 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_372 : BitVec 32 := 4#32
  let v467 : BitVec 32 := Scalar.muli v9 c4_i32_372
  let v468 : BitVec 32 := Scalar.addi c0_i32_373 v467
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_374 : BitVec 32 := 2#32
  let v469 : BitVec 32 := Scalar.muli v5 c2_i32_374
  let v470 : BitVec 32 := Scalar.addi v468 v469
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_375 : BitVec 32 := 1#32
  let v471 : BitVec 32 := Scalar.muli v8 c1_i32_375
  let v472 : BitVec 32 := Scalar.addi v470 v471
  v472.toNat
def k0_dev18 (d0 : Dev nD) : Nat :=
  let c0_i32_393 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_392 : BitVec 32 := 4#32
  let v491 : BitVec 32 := Scalar.muli v9 c4_i32_392
  let v492 : BitVec 32 := Scalar.addi c0_i32_393 v491
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_394 : BitVec 32 := 2#32
  let v493 : BitVec 32 := Scalar.muli v5 c2_i32_394
  let v494 : BitVec 32 := Scalar.addi v492 v493
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_395 : BitVec 32 := 1#32
  let v495 : BitVec 32 := Scalar.muli v8 c1_i32_395
  let v496 : BitVec 32 := Scalar.addi v494 v495
  v496.toNat
def k0_dev19 (d0 : Dev nD) : Nat :=
  let c0_i32_413 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_412 : BitVec 32 := 4#32
  let v515 : BitVec 32 := Scalar.muli v9 c4_i32_412
  let v516 : BitVec 32 := Scalar.addi c0_i32_413 v515
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_414 : BitVec 32 := 2#32
  let v517 : BitVec 32 := Scalar.muli v5 c2_i32_414
  let v518 : BitVec 32 := Scalar.addi v516 v517
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_415 : BitVec 32 := 1#32
  let v519 : BitVec 32 := Scalar.muli v8 c1_i32_415
  let v520 : BitVec 32 := Scalar.addi v518 v519
  v520.toNat
def k0_dev20 (d0 : Dev nD) : Nat :=
  let c0_i32_439 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_438 : BitVec 32 := 4#32
  let v543 : BitVec 32 := Scalar.muli v2 c4_i32_438
  let v544 : BitVec 32 := Scalar.addi c0_i32_439 v543
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_440 : BitVec 32 := 2#32
  let v545 : BitVec 32 := Scalar.muli v10 c2_i32_440
  let v546 : BitVec 32 := Scalar.addi v544 v545
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_441 : BitVec 32 := 1#32
  let v547 : BitVec 32 := Scalar.muli v8 c1_i32_441
  let v548 : BitVec 32 := Scalar.addi v546 v547
  v548.toNat
def k0_dev21 (d0 : Dev nD) : Nat :=
  let c0_i32_449 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_448 : BitVec 32 := 4#32
  let v555 : BitVec 32 := Scalar.muli v2 c4_i32_448
  let v556 : BitVec 32 := Scalar.addi c0_i32_449 v555
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_450 : BitVec 32 := 2#32
  let v557 : BitVec 32 := Scalar.muli v5 c2_i32_450
  let v558 : BitVec 32 := Scalar.addi v556 v557
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_451 : BitVec 32 := 1#32
  let v559 : BitVec 32 := Scalar.muli v11 c1_i32_451
  let v560 : BitVec 32 := Scalar.addi v558 v559
  v560.toNat
def k0_dev22 (d0 : Dev nD) : Nat :=
  let c0_i32_480 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_479 : BitVec 32 := 4#32
  let v588 : BitVec 32 := Scalar.muli v2 c4_i32_479
  let v589 : BitVec 32 := Scalar.addi c0_i32_480 v588
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_481 : BitVec 32 := 2#32
  let v590 : BitVec 32 := Scalar.muli v10 c2_i32_481
  let v591 : BitVec 32 := Scalar.addi v589 v590
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_482 : BitVec 32 := 1#32
  let v592 : BitVec 32 := Scalar.muli v8 c1_i32_482
  let v593 : BitVec 32 := Scalar.addi v591 v592
  v593.toNat
def k0_dev23 (d0 : Dev nD) : Nat :=
  let c0_i32_490 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_489 : BitVec 32 := 4#32
  let v600 : BitVec 32 := Scalar.muli v2 c4_i32_489
  let v601 : BitVec 32 := Scalar.addi c0_i32_490 v600
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_491 : BitVec 32 := 2#32
  let v602 : BitVec 32 := Scalar.muli v5 c2_i32_491
  let v603 : BitVec 32 := Scalar.addi v601 v602
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_492 : BitVec 32 := 1#32
  let v604 : BitVec 32 := Scalar.muli v11 c1_i32_492
  let v605 : BitVec 32 := Scalar.addi v603 v604
  v605.toNat
def k0_dev24 (d0 : Dev nD) : Nat :=
  let c0_i32_521 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_520 : BitVec 32 := 4#32
  let v633 : BitVec 32 := Scalar.muli v2 c4_i32_520
  let v634 : BitVec 32 := Scalar.addi c0_i32_521 v633
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_522 : BitVec 32 := 2#32
  let v635 : BitVec 32 := Scalar.muli v10 c2_i32_522
  let v636 : BitVec 32 := Scalar.addi v634 v635
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_523 : BitVec 32 := 1#32
  let v637 : BitVec 32 := Scalar.muli v8 c1_i32_523
  let v638 : BitVec 32 := Scalar.addi v636 v637
  v638.toNat
def k0_dev25 (d0 : Dev nD) : Nat :=
  let c0_i32_531 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_530 : BitVec 32 := 4#32
  let v645 : BitVec 32 := Scalar.muli v2 c4_i32_530
  let v646 : BitVec 32 := Scalar.addi c0_i32_531 v645
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_532 : BitVec 32 := 2#32
  let v647 : BitVec 32 := Scalar.muli v5 c2_i32_532
  let v648 : BitVec 32 := Scalar.addi v646 v647
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_533 : BitVec 32 := 1#32
  let v649 : BitVec 32 := Scalar.muli v11 c1_i32_533
  let v650 : BitVec 32 := Scalar.addi v648 v649
  v650.toNat
def k0_dev26 (d0 : Dev nD) : Nat :=
  let c0_i32_562 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_561 : BitVec 32 := 4#32
  let v678 : BitVec 32 := Scalar.muli v2 c4_i32_561
  let v679 : BitVec 32 := Scalar.addi c0_i32_562 v678
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_563 : BitVec 32 := 2#32
  let v680 : BitVec 32 := Scalar.muli v10 c2_i32_563
  let v681 : BitVec 32 := Scalar.addi v679 v680
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_564 : BitVec 32 := 1#32
  let v682 : BitVec 32 := Scalar.muli v8 c1_i32_564
  let v683 : BitVec 32 := Scalar.addi v681 v682
  v683.toNat
def k0_dev27 (d0 : Dev nD) : Nat :=
  let c0_i32_572 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_571 : BitVec 32 := 4#32
  let v690 : BitVec 32 := Scalar.muli v2 c4_i32_571
  let v691 : BitVec 32 := Scalar.addi c0_i32_572 v690
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_573 : BitVec 32 := 2#32
  let v692 : BitVec 32 := Scalar.muli v5 c2_i32_573
  let v693 : BitVec 32 := Scalar.addi v691 v692
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_574 : BitVec 32 := 1#32
  let v694 : BitVec 32 := Scalar.muli v11 c1_i32_574
  let v695 : BitVec 32 := Scalar.addi v693 v694
  v695.toNat
def k0_dev28 (d0 : Dev nD) : Nat :=
  let c0_i32_603 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_602 : BitVec 32 := 4#32
  let v723 : BitVec 32 := Scalar.muli v2 c4_i32_602
  let v724 : BitVec 32 := Scalar.addi c0_i32_603 v723
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_604 : BitVec 32 := 2#32
  let v725 : BitVec 32 := Scalar.muli v10 c2_i32_604
  let v726 : BitVec 32 := Scalar.addi v724 v725
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_605 : BitVec 32 := 1#32
  let v727 : BitVec 32 := Scalar.muli v8 c1_i32_605
  let v728 : BitVec 32 := Scalar.addi v726 v727
  v728.toNat
def k0_dev29 (d0 : Dev nD) : Nat :=
  let c0_i32_613 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_612 : BitVec 32 := 4#32
  let v735 : BitVec 32 := Scalar.muli v2 c4_i32_612
  let v736 : BitVec 32 := Scalar.addi c0_i32_613 v735
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_614 : BitVec 32 := 2#32
  let v737 : BitVec 32 := Scalar.muli v5 c2_i32_614
  let v738 : BitVec 32 := Scalar.addi v736 v737
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_615 : BitVec 32 := 1#32
  let v739 : BitVec 32 := Scalar.muli v11 c1_i32_615
  let v740 : BitVec 32 := Scalar.addi v738 v739
  v740.toNat
def k0_dev30 (d0 : Dev nD) : Nat :=
  let c0_i32_644 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_643 : BitVec 32 := 4#32
  let v768 : BitVec 32 := Scalar.muli v2 c4_i32_643
  let v769 : BitVec 32 := Scalar.addi c0_i32_644 v768
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_645 : BitVec 32 := 2#32
  let v770 : BitVec 32 := Scalar.muli v10 c2_i32_645
  let v771 : BitVec 32 := Scalar.addi v769 v770
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_646 : BitVec 32 := 1#32
  let v772 : BitVec 32 := Scalar.muli v8 c1_i32_646
  let v773 : BitVec 32 := Scalar.addi v771 v772
  v773.toNat
def k0_dev31 (d0 : Dev nD) : Nat :=
  let c0_i32_654 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_653 : BitVec 32 := 4#32
  let v780 : BitVec 32 := Scalar.muli v2 c4_i32_653
  let v781 : BitVec 32 := Scalar.addi c0_i32_654 v780
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_655 : BitVec 32 := 2#32
  let v782 : BitVec 32 := Scalar.muli v5 c2_i32_655
  let v783 : BitVec 32 := Scalar.addi v781 v782
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_656 : BitVec 32 := 1#32
  let v784 : BitVec 32 := Scalar.muli v11 c1_i32_656
  let v785 : BitVec 32 := Scalar.addi v783 v784
  v785.toNat
def k0_dev32 (d0 : Dev nD) : Nat :=
  let c0_i32_685 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_684 : BitVec 32 := 4#32
  let v813 : BitVec 32 := Scalar.muli v2 c4_i32_684
  let v814 : BitVec 32 := Scalar.addi c0_i32_685 v813
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_686 : BitVec 32 := 2#32
  let v815 : BitVec 32 := Scalar.muli v10 c2_i32_686
  let v816 : BitVec 32 := Scalar.addi v814 v815
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_687 : BitVec 32 := 1#32
  let v817 : BitVec 32 := Scalar.muli v8 c1_i32_687
  let v818 : BitVec 32 := Scalar.addi v816 v817
  v818.toNat
def k0_dev33 (d0 : Dev nD) : Nat :=
  let c0_i32_695 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_694 : BitVec 32 := 4#32
  let v825 : BitVec 32 := Scalar.muli v2 c4_i32_694
  let v826 : BitVec 32 := Scalar.addi c0_i32_695 v825
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_696 : BitVec 32 := 2#32
  let v827 : BitVec 32 := Scalar.muli v5 c2_i32_696
  let v828 : BitVec 32 := Scalar.addi v826 v827
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_697 : BitVec 32 := 1#32
  let v829 : BitVec 32 := Scalar.muli v11 c1_i32_697
  let v830 : BitVec 32 := Scalar.addi v828 v829
  v830.toNat
def k0_dev34 (d0 : Dev nD) : Nat :=
  let c0_i32_726 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_725 : BitVec 32 := 4#32
  let v858 : BitVec 32 := Scalar.muli v2 c4_i32_725
  let v859 : BitVec 32 := Scalar.addi c0_i32_726 v858
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_727 : BitVec 32 := 2#32
  let v860 : BitVec 32 := Scalar.muli v10 c2_i32_727
  let v861 : BitVec 32 := Scalar.addi v859 v860
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_728 : BitVec 32 := 1#32
  let v862 : BitVec 32 := Scalar.muli v8 c1_i32_728
  let v863 : BitVec 32 := Scalar.addi v861 v862
  v863.toNat
def k0_dev35 (d0 : Dev nD) : Nat :=
  let c0_i32_736 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_735 : BitVec 32 := 4#32
  let v870 : BitVec 32 := Scalar.muli v2 c4_i32_735
  let v871 : BitVec 32 := Scalar.addi c0_i32_736 v870
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_737 : BitVec 32 := 2#32
  let v872 : BitVec 32 := Scalar.muli v5 c2_i32_737
  let v873 : BitVec 32 := Scalar.addi v871 v872
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_738 : BitVec 32 := 1#32
  let v874 : BitVec 32 := Scalar.muli v11 c1_i32_738
  let v875 : BitVec 32 := Scalar.addi v873 v874
  v875.toNat
def k0_dev36 (d0 : Dev nD) : Nat :=
  let c0_i32_767 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_766 : BitVec 32 := 4#32
  let v903 : BitVec 32 := Scalar.muli v2 c4_i32_766
  let v904 : BitVec 32 := Scalar.addi c0_i32_767 v903
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_768 : BitVec 32 := 2#32
  let v905 : BitVec 32 := Scalar.muli v10 c2_i32_768
  let v906 : BitVec 32 := Scalar.addi v904 v905
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_769 : BitVec 32 := 1#32
  let v907 : BitVec 32 := Scalar.muli v8 c1_i32_769
  let v908 : BitVec 32 := Scalar.addi v906 v907
  v908.toNat
def k0_dev37 (d0 : Dev nD) : Nat :=
  let c0_i32_777 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_776 : BitVec 32 := 4#32
  let v915 : BitVec 32 := Scalar.muli v2 c4_i32_776
  let v916 : BitVec 32 := Scalar.addi c0_i32_777 v915
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_778 : BitVec 32 := 2#32
  let v917 : BitVec 32 := Scalar.muli v5 c2_i32_778
  let v918 : BitVec 32 := Scalar.addi v916 v917
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_779 : BitVec 32 := 1#32
  let v919 : BitVec 32 := Scalar.muli v11 c1_i32_779
  let v920 : BitVec 32 := Scalar.addi v918 v919
  v920.toNat
def k0_dev38 (d0 : Dev nD) : Nat :=
  let c0_i32_808 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_807 : BitVec 32 := 4#32
  let v948 : BitVec 32 := Scalar.muli v2 c4_i32_807
  let v949 : BitVec 32 := Scalar.addi c0_i32_808 v948
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_809 : BitVec 32 := 2#32
  let v950 : BitVec 32 := Scalar.muli v10 c2_i32_809
  let v951 : BitVec 32 := Scalar.addi v949 v950
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_810 : BitVec 32 := 1#32
  let v952 : BitVec 32 := Scalar.muli v8 c1_i32_810
  let v953 : BitVec 32 := Scalar.addi v951 v952
  v953.toNat
def k0_dev39 (d0 : Dev nD) : Nat :=
  let c0_i32_818 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_817 : BitVec 32 := 4#32
  let v960 : BitVec 32 := Scalar.muli v2 c4_i32_817
  let v961 : BitVec 32 := Scalar.addi c0_i32_818 v960
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_819 : BitVec 32 := 2#32
  let v962 : BitVec 32 := Scalar.muli v5 c2_i32_819
  let v963 : BitVec 32 := Scalar.addi v961 v962
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_820 : BitVec 32 := 1#32
  let v964 : BitVec 32 := Scalar.muli v11 c1_i32_820
  let v965 : BitVec 32 := Scalar.addi v963 v964
  v965.toNat
def k0_dev40 (d0 : Dev nD) : Nat :=
  let c0_i32_849 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_848 : BitVec 32 := 4#32
  let v993 : BitVec 32 := Scalar.muli v2 c4_i32_848
  let v994 : BitVec 32 := Scalar.addi c0_i32_849 v993
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_850 : BitVec 32 := 2#32
  let v995 : BitVec 32 := Scalar.muli v10 c2_i32_850
  let v996 : BitVec 32 := Scalar.addi v994 v995
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_851 : BitVec 32 := 1#32
  let v997 : BitVec 32 := Scalar.muli v8 c1_i32_851
  let v998 : BitVec 32 := Scalar.addi v996 v997
  v998.toNat
def k0_dev41 (d0 : Dev nD) : Nat :=
  let c0_i32_859 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_858 : BitVec 32 := 4#32
  let v1005 : BitVec 32 := Scalar.muli v2 c4_i32_858
  let v1006 : BitVec 32 := Scalar.addi c0_i32_859 v1005
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_860 : BitVec 32 := 2#32
  let v1007 : BitVec 32 := Scalar.muli v5 c2_i32_860
  let v1008 : BitVec 32 := Scalar.addi v1006 v1007
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_861 : BitVec 32 := 1#32
  let v1009 : BitVec 32 := Scalar.muli v11 c1_i32_861
  let v1010 : BitVec 32 := Scalar.addi v1008 v1009
  v1010.toNat
def k0_dev42 (d0 : Dev nD) : Nat :=
  let c0_i32_890 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_889 : BitVec 32 := 4#32
  let v1038 : BitVec 32 := Scalar.muli v2 c4_i32_889
  let v1039 : BitVec 32 := Scalar.addi c0_i32_890 v1038
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_891 : BitVec 32 := 2#32
  let v1040 : BitVec 32 := Scalar.muli v10 c2_i32_891
  let v1041 : BitVec 32 := Scalar.addi v1039 v1040
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_892 : BitVec 32 := 1#32
  let v1042 : BitVec 32 := Scalar.muli v8 c1_i32_892
  let v1043 : BitVec 32 := Scalar.addi v1041 v1042
  v1043.toNat
def k0_dev43 (d0 : Dev nD) : Nat :=
  let c0_i32_900 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_899 : BitVec 32 := 4#32
  let v1050 : BitVec 32 := Scalar.muli v2 c4_i32_899
  let v1051 : BitVec 32 := Scalar.addi c0_i32_900 v1050
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_901 : BitVec 32 := 2#32
  let v1052 : BitVec 32 := Scalar.muli v5 c2_i32_901
  let v1053 : BitVec 32 := Scalar.addi v1051 v1052
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_902 : BitVec 32 := 1#32
  let v1054 : BitVec 32 := Scalar.muli v11 c1_i32_902
  let v1055 : BitVec 32 := Scalar.addi v1053 v1054
  v1055.toNat
def k0_dev44 (d0 : Dev nD) : Nat :=
  let c0_i32_931 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_930 : BitVec 32 := 4#32
  let v1083 : BitVec 32 := Scalar.muli v2 c4_i32_930
  let v1084 : BitVec 32 := Scalar.addi c0_i32_931 v1083
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_932 : BitVec 32 := 2#32
  let v1085 : BitVec 32 := Scalar.muli v10 c2_i32_932
  let v1086 : BitVec 32 := Scalar.addi v1084 v1085
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_933 : BitVec 32 := 1#32
  let v1087 : BitVec 32 := Scalar.muli v8 c1_i32_933
  let v1088 : BitVec 32 := Scalar.addi v1086 v1087
  v1088.toNat
def k0_dev45 (d0 : Dev nD) : Nat :=
  let c0_i32_941 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_940 : BitVec 32 := 4#32
  let v1095 : BitVec 32 := Scalar.muli v2 c4_i32_940
  let v1096 : BitVec 32 := Scalar.addi c0_i32_941 v1095
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_942 : BitVec 32 := 2#32
  let v1097 : BitVec 32 := Scalar.muli v5 c2_i32_942
  let v1098 : BitVec 32 := Scalar.addi v1096 v1097
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_943 : BitVec 32 := 1#32
  let v1099 : BitVec 32 := Scalar.muli v11 c1_i32_943
  let v1100 : BitVec 32 := Scalar.addi v1098 v1099
  v1100.toNat
def k0_dev46 (d0 : Dev nD) : Nat :=
  let c0_i32_972 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_971 : BitVec 32 := 4#32
  let v1128 : BitVec 32 := Scalar.muli v2 c4_i32_971
  let v1129 : BitVec 32 := Scalar.addi c0_i32_972 v1128
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_973 : BitVec 32 := 2#32
  let v1130 : BitVec 32 := Scalar.muli v10 c2_i32_973
  let v1131 : BitVec 32 := Scalar.addi v1129 v1130
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_974 : BitVec 32 := 1#32
  let v1132 : BitVec 32 := Scalar.muli v8 c1_i32_974
  let v1133 : BitVec 32 := Scalar.addi v1131 v1132
  v1133.toNat
def k0_dev47 (d0 : Dev nD) : Nat :=
  let c0_i32_982 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_981 : BitVec 32 := 4#32
  let v1140 : BitVec 32 := Scalar.muli v2 c4_i32_981
  let v1141 : BitVec 32 := Scalar.addi c0_i32_982 v1140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_983 : BitVec 32 := 2#32
  let v1142 : BitVec 32 := Scalar.muli v5 c2_i32_983
  let v1143 : BitVec 32 := Scalar.addi v1141 v1142
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_984 : BitVec 32 := 1#32
  let v1144 : BitVec 32 := Scalar.muli v11 c1_i32_984
  let v1145 : BitVec 32 := Scalar.addi v1143 v1144
  v1145.toNat
def k0_dev48 (d0 : Dev nD) : Nat :=
  let c0_i32_1013 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1012 : BitVec 32 := 4#32
  let v1173 : BitVec 32 := Scalar.muli v2 c4_i32_1012
  let v1174 : BitVec 32 := Scalar.addi c0_i32_1013 v1173
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1014 : BitVec 32 := 2#32
  let v1175 : BitVec 32 := Scalar.muli v10 c2_i32_1014
  let v1176 : BitVec 32 := Scalar.addi v1174 v1175
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1015 : BitVec 32 := 1#32
  let v1177 : BitVec 32 := Scalar.muli v8 c1_i32_1015
  let v1178 : BitVec 32 := Scalar.addi v1176 v1177
  v1178.toNat
def k0_dev49 (d0 : Dev nD) : Nat :=
  let c0_i32_1023 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1022 : BitVec 32 := 4#32
  let v1185 : BitVec 32 := Scalar.muli v2 c4_i32_1022
  let v1186 : BitVec 32 := Scalar.addi c0_i32_1023 v1185
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1024 : BitVec 32 := 2#32
  let v1187 : BitVec 32 := Scalar.muli v5 c2_i32_1024
  let v1188 : BitVec 32 := Scalar.addi v1186 v1187
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1025 : BitVec 32 := 1#32
  let v1189 : BitVec 32 := Scalar.muli v11 c1_i32_1025
  let v1190 : BitVec 32 := Scalar.addi v1188 v1189
  v1190.toNat
def k0_dev50 (d0 : Dev nD) : Nat :=
  let c0_i32_1054 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1053 : BitVec 32 := 4#32
  let v1218 : BitVec 32 := Scalar.muli v2 c4_i32_1053
  let v1219 : BitVec 32 := Scalar.addi c0_i32_1054 v1218
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1055 : BitVec 32 := 2#32
  let v1220 : BitVec 32 := Scalar.muli v10 c2_i32_1055
  let v1221 : BitVec 32 := Scalar.addi v1219 v1220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1056 : BitVec 32 := 1#32
  let v1222 : BitVec 32 := Scalar.muli v8 c1_i32_1056
  let v1223 : BitVec 32 := Scalar.addi v1221 v1222
  v1223.toNat
def k0_dev51 (d0 : Dev nD) : Nat :=
  let c0_i32_1064 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1063 : BitVec 32 := 4#32
  let v1230 : BitVec 32 := Scalar.muli v2 c4_i32_1063
  let v1231 : BitVec 32 := Scalar.addi c0_i32_1064 v1230
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1065 : BitVec 32 := 2#32
  let v1232 : BitVec 32 := Scalar.muli v5 c2_i32_1065
  let v1233 : BitVec 32 := Scalar.addi v1231 v1232
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1066 : BitVec 32 := 1#32
  let v1234 : BitVec 32 := Scalar.muli v11 c1_i32_1066
  let v1235 : BitVec 32 := Scalar.addi v1233 v1234
  v1235.toNat
def k0_off2 (d0 : Dev nD) (c0_i32_1086 : BitVec 32) : Fin 2 → Nat :=
  let c2_i32_22 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_21 v5
  let v35 : BitVec 32 := Scalar.muli c2_i32_22 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.addi v35 v8
  let c4096_i32_23 : BitVec 32 := 4096#32
  let v37 : BitVec 32 := Scalar.muli v36 c4096_i32_23
  let v1257 : BitVec 32 := Scalar.addi v37 c0_i32_1086
  let c0_i32_1088 : BitVec 32 := 0#32
  ![v1257.toNat, 0]
def k0_off3 (d0 : Dev nD) (c0_i32_1101 : BitVec 32) : Fin 2 → Nat :=
  let c2_i32_24 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.muli c2_i32_24 v5
  let c1_i32_25 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_25 v8
  let v40 : BitVec 32 := Scalar.addi v38 v39
  let c4096_i32_26 : BitVec 32 := 4096#32
  let v41 : BitVec 32 := Scalar.muli v40 c4096_i32_26
  let v1272 : BitVec 32 := Scalar.addi v41 c0_i32_1101
  let c0_i32_1103 : BitVec 32 := 0#32
  ![v1272.toNat, 0]
def k0_dev52 (d0 : Dev nD) : Nat :=
  let c0_i32_1109 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1108 : BitVec 32 := 4#32
  let v1277 : BitVec 32 := Scalar.muli v2 c4_i32_1108
  let v1278 : BitVec 32 := Scalar.addi c0_i32_1109 v1277
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1110 : BitVec 32 := 2#32
  let v1279 : BitVec 32 := Scalar.muli v10 c2_i32_1110
  let v1280 : BitVec 32 := Scalar.addi v1278 v1279
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1111 : BitVec 32 := 1#32
  let v1281 : BitVec 32 := Scalar.muli v8 c1_i32_1111
  let v1282 : BitVec 32 := Scalar.addi v1280 v1281
  v1282.toNat
def k0_dev53 (d0 : Dev nD) : Nat :=
  let c0_i32_1149 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1148 : BitVec 32 := 4#32
  let v1319 : BitVec 32 := Scalar.muli v2 c4_i32_1148
  let v1320 : BitVec 32 := Scalar.addi c0_i32_1149 v1319
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1150 : BitVec 32 := 2#32
  let v1321 : BitVec 32 := Scalar.muli v10 c2_i32_1150
  let v1322 : BitVec 32 := Scalar.addi v1320 v1321
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1151 : BitVec 32 := 1#32
  let v1323 : BitVec 32 := Scalar.muli v8 c1_i32_1151
  let v1324 : BitVec 32 := Scalar.addi v1322 v1323
  v1324.toNat
def k0_dev54 (d0 : Dev nD) : Nat :=
  let c0_i32_1189 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1188 : BitVec 32 := 4#32
  let v1361 : BitVec 32 := Scalar.muli v2 c4_i32_1188
  let v1362 : BitVec 32 := Scalar.addi c0_i32_1189 v1361
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1190 : BitVec 32 := 2#32
  let v1363 : BitVec 32 := Scalar.muli v10 c2_i32_1190
  let v1364 : BitVec 32 := Scalar.addi v1362 v1363
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1191 : BitVec 32 := 1#32
  let v1365 : BitVec 32 := Scalar.muli v8 c1_i32_1191
  let v1366 : BitVec 32 := Scalar.addi v1364 v1365
  v1366.toNat
def k0_dev55 (d0 : Dev nD) : Nat :=
  let c0_i32_1229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1228 : BitVec 32 := 4#32
  let v1403 : BitVec 32 := Scalar.muli v2 c4_i32_1228
  let v1404 : BitVec 32 := Scalar.addi c0_i32_1229 v1403
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1230 : BitVec 32 := 2#32
  let v1405 : BitVec 32 := Scalar.muli v10 c2_i32_1230
  let v1406 : BitVec 32 := Scalar.addi v1404 v1405
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1231 : BitVec 32 := 1#32
  let v1407 : BitVec 32 := Scalar.muli v8 c1_i32_1231
  let v1408 : BitVec 32 := Scalar.addi v1406 v1407
  v1408.toNat
def k0_dev56 (d0 : Dev nD) : Nat :=
  let c0_i32_1269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1268 : BitVec 32 := 4#32
  let v1445 : BitVec 32 := Scalar.muli v2 c4_i32_1268
  let v1446 : BitVec 32 := Scalar.addi c0_i32_1269 v1445
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1270 : BitVec 32 := 2#32
  let v1447 : BitVec 32 := Scalar.muli v10 c2_i32_1270
  let v1448 : BitVec 32 := Scalar.addi v1446 v1447
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1271 : BitVec 32 := 1#32
  let v1449 : BitVec 32 := Scalar.muli v8 c1_i32_1271
  let v1450 : BitVec 32 := Scalar.addi v1448 v1449
  v1450.toNat
def k0_dev57 (d0 : Dev nD) : Nat :=
  let c0_i32_1309 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1308 : BitVec 32 := 4#32
  let v1487 : BitVec 32 := Scalar.muli v2 c4_i32_1308
  let v1488 : BitVec 32 := Scalar.addi c0_i32_1309 v1487
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1310 : BitVec 32 := 2#32
  let v1489 : BitVec 32 := Scalar.muli v10 c2_i32_1310
  let v1490 : BitVec 32 := Scalar.addi v1488 v1489
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1311 : BitVec 32 := 1#32
  let v1491 : BitVec 32 := Scalar.muli v8 c1_i32_1311
  let v1492 : BitVec 32 := Scalar.addi v1490 v1491
  v1492.toNat
def k0_dev58 (d0 : Dev nD) : Nat :=
  let c0_i32_1349 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1348 : BitVec 32 := 4#32
  let v1529 : BitVec 32 := Scalar.muli v2 c4_i32_1348
  let v1530 : BitVec 32 := Scalar.addi c0_i32_1349 v1529
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1350 : BitVec 32 := 2#32
  let v1531 : BitVec 32 := Scalar.muli v10 c2_i32_1350
  let v1532 : BitVec 32 := Scalar.addi v1530 v1531
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1351 : BitVec 32 := 1#32
  let v1533 : BitVec 32 := Scalar.muli v8 c1_i32_1351
  let v1534 : BitVec 32 := Scalar.addi v1532 v1533
  v1534.toNat
def k0_dev59 (d0 : Dev nD) : Nat :=
  let c0_i32_1389 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1388 : BitVec 32 := 4#32
  let v1571 : BitVec 32 := Scalar.muli v2 c4_i32_1388
  let v1572 : BitVec 32 := Scalar.addi c0_i32_1389 v1571
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1390 : BitVec 32 := 2#32
  let v1573 : BitVec 32 := Scalar.muli v10 c2_i32_1390
  let v1574 : BitVec 32 := Scalar.addi v1572 v1573
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1391 : BitVec 32 := 1#32
  let v1575 : BitVec 32 := Scalar.muli v8 c1_i32_1391
  let v1576 : BitVec 32 := Scalar.addi v1574 v1575
  v1576.toNat
def k0_dev60 (d0 : Dev nD) : Nat :=
  let c0_i32_1414 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1413 : BitVec 32 := 4#32
  let v1598 : BitVec 32 := Scalar.muli v2 c4_i32_1413
  let v1599 : BitVec 32 := Scalar.addi c0_i32_1414 v1598
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1415 : BitVec 32 := 2#32
  let v1600 : BitVec 32 := Scalar.muli v5 c2_i32_1415
  let v1601 : BitVec 32 := Scalar.addi v1599 v1600
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1416 : BitVec 32 := 1#32
  let v1602 : BitVec 32 := Scalar.muli v11 c1_i32_1416
  let v1603 : BitVec 32 := Scalar.addi v1601 v1602
  v1603.toNat
def k0_dev61 (d0 : Dev nD) : Nat :=
  let c0_i32_1454 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1453 : BitVec 32 := 4#32
  let v1640 : BitVec 32 := Scalar.muli v2 c4_i32_1453
  let v1641 : BitVec 32 := Scalar.addi c0_i32_1454 v1640
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1455 : BitVec 32 := 2#32
  let v1642 : BitVec 32 := Scalar.muli v5 c2_i32_1455
  let v1643 : BitVec 32 := Scalar.addi v1641 v1642
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1456 : BitVec 32 := 1#32
  let v1644 : BitVec 32 := Scalar.muli v11 c1_i32_1456
  let v1645 : BitVec 32 := Scalar.addi v1643 v1644
  v1645.toNat
def k0_dev62 (d0 : Dev nD) : Nat :=
  let c0_i32_1494 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1493 : BitVec 32 := 4#32
  let v1682 : BitVec 32 := Scalar.muli v2 c4_i32_1493
  let v1683 : BitVec 32 := Scalar.addi c0_i32_1494 v1682
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1495 : BitVec 32 := 2#32
  let v1684 : BitVec 32 := Scalar.muli v5 c2_i32_1495
  let v1685 : BitVec 32 := Scalar.addi v1683 v1684
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1496 : BitVec 32 := 1#32
  let v1686 : BitVec 32 := Scalar.muli v11 c1_i32_1496
  let v1687 : BitVec 32 := Scalar.addi v1685 v1686
  v1687.toNat
def k0_dev63 (d0 : Dev nD) : Nat :=
  let c0_i32_1534 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1533 : BitVec 32 := 4#32
  let v1724 : BitVec 32 := Scalar.muli v2 c4_i32_1533
  let v1725 : BitVec 32 := Scalar.addi c0_i32_1534 v1724
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1535 : BitVec 32 := 2#32
  let v1726 : BitVec 32 := Scalar.muli v5 c2_i32_1535
  let v1727 : BitVec 32 := Scalar.addi v1725 v1726
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1536 : BitVec 32 := 1#32
  let v1728 : BitVec 32 := Scalar.muli v11 c1_i32_1536
  let v1729 : BitVec 32 := Scalar.addi v1727 v1728
  v1729.toNat
def k0_dev64 (d0 : Dev nD) : Nat :=
  let c0_i32_1574 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1573 : BitVec 32 := 4#32
  let v1766 : BitVec 32 := Scalar.muli v2 c4_i32_1573
  let v1767 : BitVec 32 := Scalar.addi c0_i32_1574 v1766
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1575 : BitVec 32 := 2#32
  let v1768 : BitVec 32 := Scalar.muli v5 c2_i32_1575
  let v1769 : BitVec 32 := Scalar.addi v1767 v1768
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1576 : BitVec 32 := 1#32
  let v1770 : BitVec 32 := Scalar.muli v11 c1_i32_1576
  let v1771 : BitVec 32 := Scalar.addi v1769 v1770
  v1771.toNat
def k0_dev65 (d0 : Dev nD) : Nat :=
  let c0_i32_1614 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1613 : BitVec 32 := 4#32
  let v1808 : BitVec 32 := Scalar.muli v2 c4_i32_1613
  let v1809 : BitVec 32 := Scalar.addi c0_i32_1614 v1808
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1615 : BitVec 32 := 2#32
  let v1810 : BitVec 32 := Scalar.muli v5 c2_i32_1615
  let v1811 : BitVec 32 := Scalar.addi v1809 v1810
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1616 : BitVec 32 := 1#32
  let v1812 : BitVec 32 := Scalar.muli v11 c1_i32_1616
  let v1813 : BitVec 32 := Scalar.addi v1811 v1812
  v1813.toNat
def k0_dev66 (d0 : Dev nD) : Nat :=
  let c0_i32_1654 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1653 : BitVec 32 := 4#32
  let v1850 : BitVec 32 := Scalar.muli v2 c4_i32_1653
  let v1851 : BitVec 32 := Scalar.addi c0_i32_1654 v1850
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1655 : BitVec 32 := 2#32
  let v1852 : BitVec 32 := Scalar.muli v5 c2_i32_1655
  let v1853 : BitVec 32 := Scalar.addi v1851 v1852
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1656 : BitVec 32 := 1#32
  let v1854 : BitVec 32 := Scalar.muli v11 c1_i32_1656
  let v1855 : BitVec 32 := Scalar.addi v1853 v1854
  v1855.toNat
def k0_dev67 (d0 : Dev nD) : Nat :=
  let c0_i32_1694 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1693 : BitVec 32 := 4#32
  let v1892 : BitVec 32 := Scalar.muli v2 c4_i32_1693
  let v1893 : BitVec 32 := Scalar.addi c0_i32_1694 v1892
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1695 : BitVec 32 := 2#32
  let v1894 : BitVec 32 := Scalar.muli v5 c2_i32_1695
  let v1895 : BitVec 32 := Scalar.addi v1893 v1894
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1696 : BitVec 32 := 1#32
  let v1896 : BitVec 32 := Scalar.muli v11 c1_i32_1696
  let v1897 : BitVec 32 := Scalar.addi v1895 v1896
  v1897.toNat
def k0_off4 (d0 : Dev nD) (c0_i32_1726 : BitVec 32) : Fin 2 → Nat :=
  let c2_i32_28 : BitVec 32 := 2#32
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v42 : BitVec 32 := Scalar.subi c1_i32_27 v5
  let v43 : BitVec 32 := Scalar.muli c2_i32_28 v42
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_29 v8
  let v45 : BitVec 32 := Scalar.addi v43 v44
  let c4096_i32_30 : BitVec 32 := 4096#32
  let v46 : BitVec 32 := Scalar.muli v45 c4096_i32_30
  let v1929 : BitVec 32 := Scalar.addi v46 c0_i32_1726
  let c0_i32_1728 : BitVec 32 := 0#32
  ![v1929.toNat, 0]
-- ==== ReferenceIdeal.lean ====
abbrev S32768x1024 : Shape := ⟨2, ![32768, 1024]⟩
abbrev S2x16384x1024 : Shape := ⟨3, ![2, 16384, 1024]⟩
abbrev S_ : Shape := ⟨0, ![]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S2x16384x1024, .bf16⟩
  | .hbm, ⟨3, _⟩ => ⟨S2x16384x1024, .f32⟩
  | .hbm, ⟨4, _⟩ => ⟨S_, .f32⟩
  | .hbm, ⟨5, _⟩ => ⟨S16384x1024, .f32⟩
  | .hbm, ⟨6, _⟩ => ⟨S16384x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Prog.lean ====
module

public import proofs.«01_k».proof.Proof.Gen.KernelIdeal.Launch
public import proofs.«01_k».proof.Proof.Gen.KernelIdeal.Points

/-!
# The kernel as loops over its sixteen chunks

The printed body writes every loop of the kernel out.  Here the same effects are stated once per
chunk, as loops over the list of the chunks, and the two are equal (`body_eq`).
-/

@[expose] public section

noncomputable section

namespace Cert.KernelIdeal

open Idealize.ShloMosaic Idealize.ShloMosaic.TcCoe
open Idealize.SL Idealize.SL.Sem
open Cert.KernelIdeal.Gen

/-! ## The views -/

/-- The device's block of the argument, and its result. -/
abbrev xM : Memref sig .tc .hbm S16384x1024 .f32 := Memref.whole main_arg0
abbrev oM : Memref sig .tc .hbm S16384x1024 .bf16 := Memref.whole main_v1
/-- The two staging slots, the cast quarter, and the four receive buffers. -/
abbrev stM : Memref sig .tc .vmem S2x256x1024 .f32 := Memref.whole cc0_scratch0
abbrev bQ : Memref sig .tc .vmem S4096x1024 .bf16 := Memref.whole cc0_scratch1
abbrev bA : Memref sig .tc .vmem S4096x1024 .bf16 := Memref.whole cc0_scratch2
abbrev bY : Memref sig .tc .vmem S4096x1024 .bf16 := Memref.whole cc0_scratch3
abbrev bZ : Memref sig .tc .vmem S4096x1024 .bf16 := Memref.whole cc0_scratch4
abbrev bD : Memref sig .tc .vmem S4096x1024 .bf16 := Memref.whole cc0_scratch5

theorem inb_ch : ∀ (c : Fin 16) (a), (![256 * c.val, 0] : Fin 2 → Nat) a + S256x1024.size a ≤ S4096x1024.size a := by decide
theorem inb_st : ∀ (c : Fin 16) (a), (![c.val % 2, 0, 0] : Fin 3 → Nat) a + S1x256x1024.size a ≤ S2x256x1024.size a := by decide
theorem inb_s16 : ∀ (c : Fin 16) (a), (![c.val] : Fin 1 → Nat) a + S1.size a ≤ S16.size a := by decide
theorem inb_s8 : ∀ (c : Fin 8) (a), (![c.val] : Fin 1 → Nat) a + S1.size a ≤ S8.size a := by decide

/-- Chunk `c`'s rows of a quarter-sized buffer. -/
abbrev chR (c : Fin 16) : Rect S4096x1024 := Rect.unit (s := S4096x1024) ![256 * c.val, 0] S256x1024.size (inb_ch c)
/-- The staging slot of chunk `c`. -/
abbrev stR (c : Fin 16) : Rect S2x256x1024 := Rect.unit (s := S2x256x1024) ![c.val % 2, 0, 0] S1x256x1024.size (inb_st c)

theorem packed_ch : ∀ c : Fin 16, (chR c).PackedRows (EltTy.packing .bf16) := by decide
theorem words_ch : ∀ c : Fin 16, (chR c).WholeWords (EltTy.packing .bf16) := by decide

/-- Chunk `c` of a quarter-sized buffer. -/
abbrev ch (b : Memref sig .tc .vmem S4096x1024 .bf16) (c : Fin 16) : Memref sig .tc .vmem S256x1024 .bf16 :=
  b.slice (chR c) (fun _ => rfl)
/-- The staging slot of chunk `c`. -/
abbrev stS (c : Fin 16) : Memref sig .tc .vmem S256x1024 .f32 :=
  (stM.slice (stR c) (fun _ => rfl)).squeeze S256x1024 squeezes_S1x256x1024_S256x1024
/-- Cell `c` of an array of sixteen DMA semaphores, and of one of eight. -/
abbrev sm (a : DmaSems sig S16) (c : Fin 16) : DmaSem sig :=
  ((a.slice (Rect.unit (s := S16) ![c.val] S1.size (inb_s16 c))).squeeze S_ squeezes_S1_S_).sem
abbrev sh (a : DmaSems sig S8) (c : Fin 8) : DmaSem sig :=
  ((a.slice (Rect.unit (s := S8) ![c.val] S1.size (inb_s8 c))).squeeze S_ squeezes_S1_S_).sem

/-- The word of chunk `c`'s first row. -/
abbrev cw (c : Fin 16) : BitVec 32 := BitVec.ofNat 32 (256 * c.val)
/-- Chunk `c` of the device's own quarter of its block, and of each quarter of its result: its own, its y neighbour's,
    its z neighbour's and the opposite one's. -/
abbrev xS (d : Dev nD) (c : Fin 16) : Memref sig .tc .hbm S256x1024 .f32 :=
  xM.slice (Rect.unit (s := S16384x1024) (k0_off1 d (cw c)) S256x1024.size (k0_off1_inb d c)) (fun _ => rfl)
abbrev oS1 (d : Dev nD) (c : Fin 16) : Memref sig .tc .hbm S256x1024 .bf16 :=
  oM.slice (Rect.unit (s := S16384x1024) (k0_off1 d (cw c)) S256x1024.size (k0_off1_inb d c)) (fun _ => rfl)
abbrev oS2 (d : Dev nD) (c : Fin 16) : Memref sig .tc .hbm S256x1024 .bf16 :=
  oM.slice (Rect.unit (s := S16384x1024) (k0_off2 d (cw c)) S256x1024.size (k0_off2_inb d c)) (fun _ => rfl)
abbrev oS3 (d : Dev nD) (c : Fin 16) : Memref sig .tc .hbm S256x1024 .bf16 :=
  oM.slice (Rect.unit (s := S16384x1024) (k0_off3 d (cw c)) S256x1024.size (k0_off3_inb d c)) (fun _ => rfl)
abbrev oS4 (d : Dev nD) (c : Fin 16) : Memref sig .tc .hbm S256x1024 .bf16 :=
  oM.slice (Rect.unit (s := S16384x1024) (k0_off4 d (cw c)) S256x1024.size (k0_off4_inb d c)) (fun _ => rfl)

abbrev barS : Sems sig S_ := SemArray.scalar (sig.barrier 0 rfl)

/-- The neighbours across x, y and z. -/
abbrev xn (d : Dev nD) : Dev nD := ⟨k0_dev1 d, k0_dev1_lt d⟩
abbrev yn (d : Dev nD) : Dev nD := ⟨k0_dev2 d, k0_dev2_lt d⟩
abbrev zn (d : Dev nD) : Dev nD := ⟨k0_dev3 d, k0_dev3_lt d⟩

abbrev xn' (d : Dev nD) : Dev nD := ⟨k0_dev4 d, k0_dev4_lt d⟩
abbrev yn' (d : Dev nD) : Dev nD := ⟨k0_dev20 d, k0_dev20_lt d⟩
abbrev zn' (d : Dev nD) : Dev nD := ⟨k0_dev21 d, k0_dev21_lt d⟩
abbrev yn'' (d : Dev nD) : Dev nD := ⟨k0_dev52 d, k0_dev52_lt d⟩
abbrev zn'' (d : Dev nD) : Dev nD := ⟨k0_dev60 d, k0_dev60_lt d⟩

/-! ## The effects -/

variable {F : FTy → Type} [FloatOps F]

/-- A program of the kernel. -/
abbrev KProg (F : FTy → Type) [FloatOps F] (α : Type) := Prog (TpuEff nD τ sig (Elt F) Λ₀ .tc) α

theorem words_of {b : Memref sig .tc .vmem S4096x1024 .bf16} (h : b.IsWhole) (c : Fin 16) : (ch b c).view.WordExact :=
  h.wordExact_slice rfl _ (words_ch c)

/-- Chunk `c` of the block starts into its staging slot. -/
def inStart (d : Dev nD) (c : Fin 16) : KProg F PUnit :=
  Prog.lift (.enqueueDma (xS d c) (.here (stS c)) (.dma (sm cc0_scratch6 c)) (View.wordExact_bits rfl)
    ((View.wordExact_bits rfl).reshape _ _) ⟨Or.inl rfl, trivial⟩)
/-- It has landed. -/
def inWait (d : Dev nD) (c : Fin 16) : KProg F PUnit :=
  Prog.lift (.waitDma2 (sm cc0_scratch6 c) (xS d c) (stS c) (View.wordExact_bits rfl) ((View.wordExact_bits rfl).reshape _ _))
/-- What is sent of a staging slot: the chunk in bf16. -/
def castP (v : Vec F S1x256x1024 .f32) : FVec F S256x1024 .bf16 :=
  shapeCast S256x1024 (truncf .bf16 (shapeCast S256x1024 v shapeCasts_S1x256x1024_S256x1024) bitsLt_bf16_f32)
    shapeCasts_S256x1024_S256x1024
/-- The sum of two chunks, as the kernel stores it. -/
def addP (v w : Vec F S256x1024 .bf16) : FVec F S256x1024 .bf16 :=
  shapeCast S256x1024 (addf v w : FVec F S256x1024 .bf16) shapeCasts_S256x1024_S256x1024

/-- A load and a store of chunk `c`. -/
def ldC (b : Memref sig .tc .vmem S4096x1024 .bf16) (c : Fin 16) : KProg F (Vec F S256x1024 .bf16) :=
  Prog.lift (.load b (chR c).toLoadRect (View.loadsAt_vmem h_S256x1024))
def stC (b : Memref sig .tc .vmem S4096x1024 .bf16) (h : b.IsWhole) (c : Fin 16) (v : FVec F S256x1024 .bf16) : KProg F PUnit :=
  Prog.lift (.store b (chR c) v Finset.univ (View.stores_vmem h_S256x1024 (h.storeExact_slice rfl _ (packed_ch c)) (fun _ => rfl))
    (.inl rfl))
/-- A chunk to another device, its send and its receive cell; the wait of either. -/
def sendC (p : Dev nD) (a b : Memref sig .tc .vmem S4096x1024 .bf16) (ha : a.IsWhole) (hb : b.IsWhole) (c : Fin 16) (s r : DmaSem sig) :
    KProg F PUnit :=
  Prog.lift (.enqueueDma (ch a c) (.remote (Dev.tc p) (ch b c) (.dma s)) (.dma r) (words_of ha c) (words_of hb c)
    ⟨⟨rfl, Or.inl rfl⟩, trivial⟩)
def waitC (s : DmaSem sig) (a b : Memref sig .tc .vmem S4096x1024 .bf16) (ha : a.IsWhole) (hb : b.IsWhole) (c : Fin 16) : KProg F PUnit :=
  Prog.lift (.waitDma2 s (ch a c) (ch b c) (words_of ha c) (words_of hb c))
/-- A chunk out to the result, and its wait. -/
def outC (b : Memref sig .tc .vmem S4096x1024 .bf16) (h : b.IsWhole) (c : Fin 16) (o : Memref sig .tc .hbm S256x1024 .bf16)
    (ho : o.view.WordExact) (s : DmaSem sig) : KProg F PUnit :=
  Prog.lift (.enqueueDma (ch b c) (.here o) (.dma s) (words_of h c) ho ⟨Or.inl rfl, trivial⟩)
def outW (s : DmaSem sig) (b : Memref sig .tc .vmem S4096x1024 .bf16) (h : b.IsWhole) (c : Fin 16) (o : Memref sig .tc .hbm S256x1024 .bf16)
    (ho : o.view.WordExact) : KProg F PUnit :=
  Prog.lift (.waitDma2 s (ch b c) o (words_of h c) ho)

theorem hQ : bQ.IsWhole := Memref.isWhole_whole _
theorem hA : bA.IsWhole := Memref.isWhole_whole _
theorem hY : bY.IsWhole := Memref.isWhole_whole _
theorem hZ : bZ.IsWhole := Memref.isWhole_whole _
theorem hD : bD.IsWhole := Memref.isWhole_whole _
theorem ho1 (d : Dev nD) (c : Fin 16) : (oS1 d c).view.WordExact :=
  (Memref.isWhole_whole main_v1).wordExact_slice rfl _ (k0_off1_wordsbf16 d c)
theorem ho2 (d : Dev nD) (c : Fin 16) : (oS2 d c).view.WordExact :=
  (Memref.isWhole_whole main_v1).wordExact_slice rfl _ (k0_off2_wordsbf16 d c)
theorem ho3 (d : Dev nD) (c : Fin 16) : (oS3 d c).view.WordExact :=
  (Memref.isWhole_whole main_v1).wordExact_slice rfl _ (k0_off3_wordsbf16 d c)
theorem ho4 (d : Dev nD) (c : Fin 16) : (oS4 d c).view.WordExact :=
  (Memref.isWhole_whole main_v1).wordExact_slice rfl _ (k0_off4_wordsbf16 d c)

/-! ## The loops -/

/-- A step for each chunk of a list, in order. -/
def each {α : Type} : List α → (α → KProg F PUnit) → KProg F PUnit
  | [], _ => pure ⟨⟩
  | c :: cs, f => f c >>= fun _ => each cs f

abbrev all16 : List (Fin 16) := [0, 1, 2, 3, 4, 5, 6, 7, 8, 9, 10, 11, 12, 13, 14, 15]
abbrev all8 : List (Fin 8) := [0, 1, 2, 3, 4, 5, 6, 7]
/-- Chunk `j` of the first and of the second half. -/
abbrev lo (j : Fin 8) : Fin 16 := ⟨j.val, by omega⟩
abbrev hi (j : Fin 8) : Fin 16 := ⟨8 + j.val, by omega⟩

/-- Signal the three neighbours and wait for theirs. -/
def barrierP (d : Dev nD) : KProg F PUnit := do
  semSignalWord (xn d) barS.sem 1#32
  semSignalWord (yn d) barS.sem 1#32
  semSignalWord (zn d) barS.sem 1#32
  semWaitWord barS.sem 3#32

/-- Loop 1: cast chunk `c` and send it across x. -/
def loop1a (d : Dev nD) (c : Fin 16) : KProg F PUnit := do
  inWait d c
  let v : Vec F S1x256x1024 .f32 ← Prog.lift (.load stM (stR c).toLoadRect (View.loadsAt_vmem h_S1x256x1024))
  let _ ← ldC bQ c
  stC bQ hQ c (castP v)
def loop1b (d : Dev nD) (c : Fin 16) : KProg F PUnit :=
  sendC (xn' d) bQ bA hQ hA c (sm cc0_scratch7 c) (sm cc0_scratch8 c)
/-- Loop 1 over the chunks: while a chunk is cast, the one two later starts in. -/
def loop1 (d : Dev nD) : List (Fin 16) → KProg F PUnit
  | a :: b :: c :: l => do
    loop1a d a
    inStart d c
    loop1b d a
    loop1 d (b :: c :: l)
  | a :: l => do
    loop1a d a
    loop1b d a
    loop1 d l
  | [] => pure ⟨⟩

/-- Loop 2: add the chunk that has come across x, send the sum across y and z, and out. -/
def loop2 (d : Dev nD) (c : Fin 16) : KProg F PUnit := do
  waitC (sm cc0_scratch8 c) bQ bA hQ hA c
  let v ← ldC bQ c
  let w ← ldC bA c
  let _ ← ldC bA c
  stC bA hA c (addP v w)
  sendC (yn' d) bA bY hA hY c (sm cc0_scratch9 c) (sm cc0_scratch10 c)
  sendC (zn' d) bA bZ hA hZ c (sm cc0_scratch11 c) (sm cc0_scratch12 c)
  outC bA hA c (oS1 d c) (ho1 d c) (sm cc0_scratch17 c)

/-- Loop 3: the sums of the y and z neighbours go out, and half of each goes on. -/
def loop3a (d : Dev nD) (c : Fin 16) : KProg F PUnit := do
  waitC (sm cc0_scratch10 c) bA bY hA hY c
  outC bY hY c (oS2 d c) (ho2 d c) (sm cc0_scratch18 c)
def loop3b (d : Dev nD) (c : Fin 16) : KProg F PUnit := do
  waitC (sm cc0_scratch12 c) bA bZ hA hZ c
  outC bZ hZ c (oS3 d c) (ho3 d c) (sm cc0_scratch19 c)
def loop3lo (d : Dev nD) (j : Fin 8) : KProg F PUnit := do
  loop3a d (lo j)
  loop3b d (lo j)
  sendC (yn'' d) bZ bD hZ hD (lo j) (sh cc0_scratch13 j) (sh cc0_scratch14 j)
def loop3hi (d : Dev nD) (j : Fin 8) : KProg F PUnit := do
  loop3a d (hi j)
  sendC (zn'' d) bY bD hY hD (hi j) (sh cc0_scratch15 j) (sh cc0_scratch16 j)
  loop3b d (hi j)

/-- Loops 4 and 5: the opposite device's sum goes out. -/
def loop4 (d : Dev nD) (j : Fin 8) : KProg F PUnit := do
  waitC (sh cc0_scratch14 j) bZ bD hZ hD (lo j)
  outC bD hD (lo j) (oS4 d (lo j)) (ho4 d (lo j)) (sm cc0_scratch20 (lo j))
def loop5 (d : Dev nD) (j : Fin 8) : KProg F PUnit := do
  waitC (sh cc0_scratch16 j) bY bD hY hD (hi j)
  outC bD hD (hi j) (oS4 d (hi j)) (ho4 d (hi j)) (sm cc0_scratch20 (hi j))

/-- The waits of what was sent, and of what went out. -/
def loop6 (c : Fin 16) : KProg F PUnit := do
  waitC (sm cc0_scratch7 c) bA bQ hA hQ c
  waitC (sm cc0_scratch9 c) bY bA hY hA c
  waitC (sm cc0_scratch11 c) bZ bA hZ hA c
def loop7 (j : Fin 8) : KProg F PUnit := do
  waitC (sh cc0_scratch13 j) bD bZ hD hZ (lo j)
  waitC (sh cc0_scratch15 j) bD bY hD hY (hi j)
def loop8 (d : Dev nD) (c : Fin 16) : KProg F PUnit := do
  outW (sm cc0_scratch17 c) bA hA c (oS1 d c) (ho1 d c)
  outW (sm cc0_scratch18 c) bY hY c (oS2 d c) (ho2 d c)
  outW (sm cc0_scratch19 c) bZ hZ c (oS3 d c) (ho3 d c)
  outW (sm cc0_scratch20 c) bD hD c (oS4 d c) (ho4 d c)

/-- What follows the device's id. -/
def kernelAt (d : Dev nD) : KProg F PUnit := do
  barrierP d
  inStart d 0
  inStart d 1
  loop1 d all16
  each all16 (loop2 d)
  each all8 (loop3lo d)
  each all8 (loop3hi d)
  each all8 (loop4 d)
  each all8 (loop5 d)
  each all16 loop6
  each all8 loop7
  each all16 (loop8 d)

/-- The kernel. -/
def kernelP : KProg F PUnit := do
  let d : Dev nD ← Prog.lift .deviceId
  kernelAt d

/-- The printed body is the loops. -/
theorem body_eq (t : Fin cfg0.N) : (bodyAt0 t : KProg F PUnit) = kernelP := by
  chain_rfl

end Cert.KernelIdeal

end
-- ==== Proof.Hold.lean ====
module

public import proofs.«01_k».proof.Proof.Prog
public import Idealize.ShloMosaic.Lib.Pipeline.Launch
public import Idealize.ShloMosaic.Lib.Pipeline.Kit
public import Idealize.ShloMosaic.Lib.Pipeline.BigSepL
public import Idealize.ShloMosaic.Lib.Ring
public import Idealize.ShloMosaic.Lib.Tactic

/-!
# A view held at what it reads as

`hold v d q X` is the share `q` of the elements under the view `v` on device `d`, reading as `X`.
-/

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The rounds' algebra, with three duty names, beside the pipeline library's. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

section Hold

variable {sp : Space} {s : Shape} {e : EltTy}

/-- The share `q` of the elements under `v` on device `d`, reading as `X`. -/
def hold (v : Memref sig .tc sp s e) (d : Dev nD) (q : PosShare TreeShare) (X : s.Idx → Elt F e) : sProp 𝕄 :=
  v.view.loc (d : Thread nD τ) ↦[v.view.set]{q} v.view.write (Elt F) (m (v.view.loc (d : Thread nD τ))) X Finset.univ

instance hold_storable (v : Memref sig .tc sp s e) (d : Dev nD) (q : PosShare TreeShare) (X : s.Idx → Elt F e) :
    BI.Storable (upEmb : UEmb _ 𝕄) (hold m v d q X) := by unfold hold; infer_instance

/-- All of the elements, at whatever they hold. -/
def junk (v : Memref sig .tc sp s e) (d : Dev nD) : sProp 𝕄 := iprop(∃ X, hold m v d fullShare X)

instance junk_storable (v : Memref sig .tc sp s e) (d : Dev nD) :
    BI.Storable (upEmb : UEmb _ 𝕄) (junk m v d) := by unfold junk; infer_instance

/-- Elements held at contents `f` are held at what `f` reads as. -/
theorem hold_of (v : Memref sig .tc sp s e) (d : Dev nD) (q : PosShare TreeShare) (f : Buf (Elt F) (v.view.loc (d : Thread nD τ))) :
    (v.view.loc (d : Thread nD τ) ↦[v.view.set]{q} f : sProp 𝕄) = hold m v d q (v.view.read (Elt F) f) := by
  unfold hold
  refine pointsTo_congr fun i hi => ?_
  obtain ⟨x, -, rfl⟩ := Finset.mem_map.mp hi
  rw [View.write_emb_of_mem _ _ (Finset.mem_univ x), View.read_apply, cast_cast, cast_eq]

theorem hold_write (v : Memref sig .tc sp s e) (d : Dev nD) (q : PosShare TreeShare) (f : Buf (Elt F) (v.view.loc (d : Thread nD τ)))
    (X : s.Idx → Elt F e) :
    (v.view.loc (d : Thread nD τ) ↦[v.view.set]{q} v.view.write (Elt F) f X Finset.univ : sProp 𝕄) = hold m v d q X := by
  rw [hold_of m, View.read_write_univ]

/-- Two assertions entailing each other are one. -/
theorem both {P Q : sProp 𝕄} (h : P ⊢ Q) (h' : Q ⊢ P) : P = Q := BI.Entails.antisymm h h'

/-- Two shares of the same elements. -/
theorem hold_halve (v : Memref sig .tc sp s e) (d : Dev nD) (q : PosShare TreeShare) (X : s.Idx → Elt F e) :
    hold m v d q X = iprop(hold m v d q.left X ∗ hold m v d q.right X) := by
  unfold hold
  exact BI.Entails.antisymm (pointsTo_share (PosShare.mem_left_op_right q)).1 (pointsTo_share (PosShare.mem_left_op_right q)).2

end Hold

/-! ## Chains over lists -/

section Chains

variable {I J : Type}

theorem bigSepL_sep (l : List I) (Φ Ψ : I → sProp 𝕄) :
    bigSepL l (fun i => iprop(Φ i ∗ Ψ i)) = iprop(bigSepL l Φ ∗ bigSepL l Ψ) := by
  induction l with
  | nil => exact (equiv_iff.mp emp_sep).symm
  | cons i l ih =>
    rw [bigSepL_cons', bigSepL_cons', bigSepL_cons', ih]
    refine both ?_ ?_
    · iintro ⟨⟨H1, H2⟩, H3, H4⟩
      isplitl [H1 H3]
      · isplitl [H1] <;> iassumption
      · isplitl [H2] <;> iassumption
    · iintro ⟨⟨H1, H3⟩, H2, H4⟩
      isplitl [H1 H2]
      · isplitl [H1] <;> iassumption
      · isplitl [H3] <;> iassumption

end Chains

end Cert.KernelIdeal

end
-- ==== Proof.Sched.lean ====
module

public import proofs.«01_k».proof.Proof.Hold

/-!
# The protocol

Every cell has one round.  A device's barrier cell is paid one unit by each of its three neighbours, which hand it the
receive buffers of theirs that it sends into.  Each of the DMA cells is paid by the one copy that counts on it, with what
that copy moves, read as what it then holds.
-/

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## The neighbours -/

theorem xn_xn : ∀ d : Dev nD, xn (xn d) = d := by decide
theorem yn_yn : ∀ d : Dev nD, yn (yn d) = d := by decide
theorem zn_zn : ∀ d : Dev nD, zn (zn d) = d := by decide
theorem yn_zn : ∀ d : Dev nD, yn (zn d) = zn (yn d) := by decide
theorem xn'_eq : ∀ d : Dev nD, xn' d = xn d := by decide
theorem yn'_eq : ∀ d : Dev nD, yn' d = yn d := by decide
theorem zn'_eq : ∀ d : Dev nD, zn' d = zn d := by decide
theorem yn''_eq : ∀ d : Dev nD, yn'' d = yn d := by decide
theorem zn''_eq : ∀ d : Dev nD, zn'' d = zn d := by decide

/-! ## What the chunks read as -/

/-- Chunk `c` of device `d`'s own quarter of its block, in f32 and in bf16, and its sum with the one across x. -/
def X (d : Dev nD) (c : Fin 16) : S256x1024.Idx → Elt F .f32 :=
  (xS d c).view.read (Elt F) (m ((d : Thread nD τ).loc main_arg0))
def Q (d : Dev nD) (c : Fin 16) : S256x1024.Idx → Elt F .bf16 := truncf .bf16 (X m d c : FVec F S256x1024 .f32) bitsLt_bf16_f32
def A (d : Dev nD) (c : Fin 16) : S256x1024.Idx → Elt F .bf16 :=
  addf (Q m d c : FVec F S256x1024 .bf16) (Q m (xn d) c)

/-! ## The cells -/

/-- The DMA cells by what counts on them: chunks in; chunks sent across x and received; sums sent across y and received,
    across z and received; sums passed on across y and received, across z and received; and the four copies out. -/
inductive Knd
  | inn (c : Fin 16) | s1s (c : Fin 16) | s1r (c : Fin 16) | ys (c : Fin 16) | yr (c : Fin 16) | zs (c : Fin 16) | zr (c : Fin 16)
  | y3s (j : Fin 8) | y3r (j : Fin 8) | z3s (j : Fin 8) | z3r (j : Fin 8)
  | o1 (c : Fin 16) | o2 (c : Fin 16) | o3 (c : Fin 16) | o4 (c : Fin 16)
  deriving DecidableEq

abbrev r16 (n : ℕ) : Fin 16 := ⟨n % 16, Nat.mod_lt _ (by decide)⟩
abbrev r8 (n : ℕ) : Fin 8 := ⟨n % 8, Nat.mod_lt _ (by decide)⟩

/-- Which one a DMA cell is. -/
def kindOf (q : DmaSem sig) : Knd :=
  if q.val < 16 then .inn (r16 q.val) else if q.val < 32 then .s1s (r16 q.val) else if q.val < 48 then .s1r (r16 q.val)
  else if q.val < 64 then .ys (r16 q.val) else if q.val < 80 then .yr (r16 q.val) else if q.val < 96 then .zs (r16 q.val)
  else if q.val < 112 then .zr (r16 q.val) else if q.val < 120 then .y3s (r8 q.val) else if q.val < 128 then .y3r (r8 q.val)
  else if q.val < 136 then .z3s (r8 q.val) else if q.val < 144 then .z3r (r8 q.val) else if q.val < 160 then .o1 (r16 q.val)
  else if q.val < 176 then .o2 (r16 q.val) else if q.val < 192 then .o3 (r16 q.val) else .o4 (r16 q.val)

theorem k_inn : ∀ c, kindOf (sm cc0_scratch6 c) = .inn c := by decide
theorem k_s1s : ∀ c, kindOf (sm cc0_scratch7 c) = .s1s c := by decide
theorem k_s1r : ∀ c, kindOf (sm cc0_scratch8 c) = .s1r c := by decide
theorem k_ys : ∀ c, kindOf (sm cc0_scratch9 c) = .ys c := by decide
theorem k_yr : ∀ c, kindOf (sm cc0_scratch10 c) = .yr c := by decide
theorem k_zs : ∀ c, kindOf (sm cc0_scratch11 c) = .zs c := by decide
theorem k_zr : ∀ c, kindOf (sm cc0_scratch12 c) = .zr c := by decide
theorem k_y3s : ∀ c, kindOf (sh cc0_scratch13 c) = .y3s c := by decide
theorem k_y3r : ∀ c, kindOf (sh cc0_scratch14 c) = .y3r c := by decide
theorem k_z3s : ∀ c, kindOf (sh cc0_scratch15 c) = .z3s c := by decide
theorem k_z3r : ∀ c, kindOf (sh cc0_scratch16 c) = .z3r c := by decide
theorem k_o1 : ∀ c, kindOf (sm cc0_scratch17 c) = .o1 c := by decide
theorem k_o2 : ∀ c, kindOf (sm cc0_scratch18 c) = .o2 c := by decide
theorem k_o3 : ∀ c, kindOf (sm cc0_scratch19 c) = .o3 c := by decide
theorem k_o4 : ∀ c, kindOf (sm cc0_scratch20 c) = .o4 c := by decide

abbrev cel (d : Dev nD) (q : DmaSem sig) : GSem nD τ sig := ((d : Thread nD τ), .dma q)
abbrev bar (d : Dev nD) : GSem nD τ sig := ((d : Thread nD τ), .reg barS.sem)

/-- What a chunk's copy counts, staged in f32 and in bf16. -/
abbrev NI : ℕ := (stS 0).view.dmaCredit
abbrev N : ℕ := (ch bA 0).view.dmaCredit
theorem NI_pos : 0 < NI := View.dmaCredit_pos _ (by decide)
theorem N_pos : 0 < N := View.dmaCredit_pos _ (by decide)

def amt : Knd → ℕ
  | .inn _ => NI
  | _ => N
theorem amt_pos (k : Knd) : 0 < amt k := by cases k <;> first | exact NI_pos | exact N_pos

/-- What the copy that counts on device `d`'s cell hands back or over. -/
def pay (d : Dev nD) : Knd → sProp 𝕄
  | .inn c => iprop(hold m (stS c) d fullShare (X m d c) ∗ hold m (xS d c) d fullShare (X m d c))
  | .s1s c => hold m (ch bQ c) d fullShare.left (Q m d c)
  | .s1r c => hold m (ch bA c) d fullShare (Q m (xn d) c)
  | .ys c => hold m (ch bA c) d fullShare.left (A m d c)
  | .yr c => hold m (ch bY c) d fullShare (A m (yn d) c)
  | .zs c => hold m (ch bA c) d fullShare.right.left (A m d c)
  | .zr c => hold m (ch bZ c) d fullShare (A m (zn d) c)
  | .y3s j => hold m (ch bZ (lo j)) d fullShare.right (A m (zn d) (lo j))
  | .y3r j => hold m (ch bD (lo j)) d fullShare (A m (zn (yn d)) (lo j))
  | .z3s j => hold m (ch bY (hi j)) d fullShare.right (A m (yn d) (hi j))
  | .z3r j => hold m (ch bD (hi j)) d fullShare (A m (zn (yn d)) (hi j))
  | .o1 c => iprop(hold m (oS1 d c) d fullShare (A m d c) ∗ hold m (ch bA c) d fullShare.right.right (A m d c))
  | .o2 c => iprop(hold m (oS2 d c) d fullShare (A m (yn d) c) ∗ hold m (ch bY c) d fullShare.left (A m (yn d) c))
  | .o3 c => iprop(hold m (oS3 d c) d fullShare (A m (zn d) c) ∗ hold m (ch bZ c) d fullShare.left (A m (zn d) c))
  | .o4 c => iprop(hold m (oS4 d c) d fullShare (A m (zn (yn d)) c) ∗ hold m (ch bD c) d fullShare (A m (zn (yn d)) c))

/-- What device `d`'s neighbour across x, y or z hands it on its barrier: the buffers `d` sends into. -/
def barPay (d : Dev nD) (i : Fin 3) : sProp 𝕄 :=
  if i = 0 then bigSepL all16 fun c => junk m (ch bA c) (xn d)
  else if i = 1 then iprop((bigSepL all16 fun c => junk m (ch bY c) (yn d)) ∗ bigSepL all8 fun j => junk m (ch bD (lo j)) (yn d))
  else iprop((bigSepL all16 fun c => junk m (ch bZ c) (zn d)) ∗ bigSepL all8 fun j => junk m (ch bD (hi j)) (zn d))

instance bigSepL_storable {I : Type} (l : List I) (Φ : I → sProp 𝕄) [∀ i, BI.Storable (upEmb : UEmb _ 𝕄) (Φ i)] :
    BI.Storable (upEmb : UEmb _ 𝕄) (bigSepL l Φ) := by
  induction l with
  | nil => exact (inferInstance : BI.Storable (upEmb : UEmb _ 𝕄) (iprop(emp) : sProp 𝕄))
  | cons i l ih => rw [bigSepL_cons']; infer_instance

instance pay_storable (d : Dev nD) (k : Knd) : BI.Storable (upEmb : UEmb _ 𝕄) (pay m d k) := by
  cases k <;> (unfold pay; infer_instance)
instance barPay_storable (d : Dev nD) (i : Fin 3) : BI.Storable (upEmb : UEmb _ 𝕄) (barPay m d i) := by
  unfold barPay; (repeat' split) <;> infer_instance

/-- The schedule. -/
def rd : Rounds.Schedule (GSem nD τ sig) (Fin 3) 𝕄 where
  duties g r := if r = 0 then (match g.2 with | .reg _ => Finset.univ | .dma _ => {0}) else ∅
  unitless _ := False
  amount g _ _ := match g.2 with | .reg _ => 1 | .dma q => amt (kindOf q)
  payload g _ i := match g.2 with | .reg _ => barPay m g.1.1 i | .dma q => pay m g.1.1 (kindOf q)
  amount_pos g _ _ _ := by
    rcases g with ⟨t, s | q⟩
    · exact Nat.one_pos
    · exact amt_pos _

instance rd_storable (g : GSem nD τ sig) (r : ℕ) (i : Fin 3) :
    BI.Storable (upEmb : UEmb _ 𝕄) ((rd (F := F) m).payload g r i) := by
  rcases g with ⟨t, s | q⟩
  · show BI.Storable (upEmb : UEmb _ 𝕄) (barPay m t.1 i); infer_instance
  · show BI.Storable (upEmb : UEmb _ 𝕄) (pay m t.1 (kindOf q)); infer_instance

theorem duties_dma (d : Dev nD) (q : DmaSem sig) : (rd m).duties (cel d q) 0 = {0} := rfl
theorem duties_bar (d : Dev nD) : (rd m).duties (bar d) 0 = Finset.univ := rfl
theorem duties_later (g : GSem nD τ sig) : ∀ r, 1 ≤ r → (rd m).duties g r = ∅ := fun r hr => if_neg (by omega)
theorem expect_dma (d : Dev nD) (q : DmaSem sig) : (rd m).expect (cel d q) 0 = amt (kindOf q) := by
  unfold Schedule.expect Schedule.amountOf
  rw [duties_dma, Finset.sum_singleton]; rfl
theorem expect_bar (d : Dev nD) : (rd m).expect (bar d) 0 = 3 := by
  unfold Schedule.expect Schedule.amountOf
  rw [duties_bar]; rfl
theorem rest_dma (d : Dev nD) (q : DmaSem sig) :
    bigSep ((rd m).duties (cel d q) 0 \ ∅) (fun i => (rd m).payload (cel d q) 0 i) = pay m d (kindOf q) := by
  rw [Finset.sdiff_empty, duties_dma, bigSep_singleton]; rfl
theorem rest_bar (d : Dev nD) :
    bigSep ((rd m).duties (bar d) 0 \ ∅) (fun i => (rd m).payload (bar d) 0 i)
      = iprop(barPay m d 0 ∗ barPay m d 1 ∗ barPay m d 2) := by
  rw [Finset.sdiff_empty, duties_bar, bigSep_univ_eq_bigSepL [0, 1, 2] (by decide) (by decide)]; rfl

/-! ## Levels, and what a device owes -/

def L (g : GSem nD τ sig) : Finset Unit := if g.1.2 = .tc then {()} else ∅
def lvK : Knd → ℕ
  | .s1r _ => 2 | .yr _ => 3 | .zr _ => 3 | .y3r _ => 4 | .z3r _ => 4 | _ => 0
def lv (g : GSem nD τ sig) (_ : Unit) : ℕ := match g.2 with | .reg _ => 1 | .dma q => lvK (kindOf q)

theorem L_of_ne (g : GSem nD τ sig) (h : g.1.2 ≠ .tc) : L g = ∅ := if_neg h
theorem L_tc (d : Dev nD) (s : SemLoc sig) : L ((d : Thread nD τ), s) = {()} := if_pos rfl

abbrev Owed : Type := CellTallies nD τ sig Unit

/-- What is owed lies above level `n`. -/
def Above (n : ℕ) (O : Owed) : Prop := ∀ g u, 0 < O g u → g.1.2 = .tc ∧ n < lv g u

theorem above_zero (n : ℕ) : Above n 0 := fun g u h => absurd h (by simp)
theorem above_add {n : ℕ} {O O' : Owed} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (d : Dev nD) (s : SemLoc sig) (k : ℕ) (h : n < lv ((d : Thread nD τ), s) ()) :
    Above n (tallyAt ((d : Thread nD τ), s) () k) := fun g u hg => by
  rw [tallyAt_apply] at hg
  by_cases hh : g = ((d : Thread nD τ), s) ∧ u = ()
  · rw [hh.1]; exact ⟨rfl, h⟩
  · rw [if_neg hh] at hg; exact absurd hg (Nat.lt_irrefl 0)

theorem mayWait (d : Dev nD) (s : SemLoc sig) (O : Owed) (h : Above (lv ((d : Thread nD τ), s) ()) O) :
    (levAts L lv : sProp 𝕄) ⊢ MayWait (d : Thread nD τ) s () O :=
  MayOwe.of_cut (L := L) (lev := lv) (lv ((d : Thread nD τ), s) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

/-- The sum of what is owed for each of a list. -/
def sumL {α : Type} (l : List α) (f : α → Owed) : Owed := (l.map f).sum
theorem sumL_nil {α : Type} (f : α → Owed) : sumL [] f = 0 := rfl
theorem sumL_cons {α : Type} (a : α) (l : List α) (f : α → Owed) : sumL (a :: l) f = f a + sumL l f := by
  unfold sumL; rw [List.map_cons, List.sum_cons]
theorem above_sumL {α : Type} {n : ℕ} (l : List α) (f : α → Owed) (h : ∀ a, Above n (f a)) : Above n (sumL l f) := by
  induction l with
  | nil => exact above_zero n
  | cons a l ih => rw [sumL_cons]; exact above_add (h a) ih

/-- Owed for a chunk in each loop, and from each loop on. -/
def t1 (d : Dev nD) (c : Fin 16) : Owed := tallyAt (cel (xn d) (sm cc0_scratch8 c)) () N
def t2y (d : Dev nD) (c : Fin 16) : Owed := tallyAt (cel (yn d) (sm cc0_scratch10 c)) () N
def t2z (d : Dev nD) (c : Fin 16) : Owed := tallyAt (cel (zn d) (sm cc0_scratch12 c)) () N
def t2 (d : Dev nD) (c : Fin 16) : Owed := t2y d c + t2z d c
def t3 (d : Dev nD) (j : Fin 8) : Owed := tallyAt (cel (yn d) (sh cc0_scratch14 j)) () N
def t4 (d : Dev nD) (j : Fin 8) : Owed := tallyAt (cel (zn d) (sh cc0_scratch16 j)) () N
def b3 (d : Dev nD) : Owed := sumL all8 (t4 d)
def b2 (d : Dev nD) : Owed := sumL all8 (t3 d) + b3 d
def b1 (d : Dev nD) : Owed := sumL all16 (t2 d) + b2 d
def b0 (d : Dev nD) : Owed := sumL all16 (t1 d) + b1 d
def O₀ (d : Dev nD) : Owed :=
  b0 d + tallyAt (bar (zn d)) () 1 + tallyAt (bar (yn d)) () 1 + tallyAt (bar (xn d)) () 1

theorem lv_dma (d : Dev nD) (q : DmaSem sig) : lv (cel d q) () = lvK (kindOf q) := rfl
theorem above_t1 {n : ℕ} (h : n < 2) (d : Dev nD) (c : Fin 16) : Above n (t1 d c) :=
  above_tally _ _ _ (by rw [lv_dma, k_s1r]; exact h)
theorem above_t2 {n : ℕ} (h : n < 3) (d : Dev nD) (c : Fin 16) : Above n (t2 d c) :=
  above_add (above_tally _ _ _ (by rw [lv_dma, k_yr]; exact h)) (above_tally _ _ _ (by rw [lv_dma, k_zr]; exact h))
theorem above_t3 {n : ℕ} (h : n < 4) (d : Dev nD) (j : Fin 8) : Above n (t3 d j) :=
  above_tally _ _ _ (by rw [lv_dma, k_y3r]; exact h)
theorem above_t4 {n : ℕ} (h : n < 4) (d : Dev nD) (j : Fin 8) : Above n (t4 d j) :=
  above_tally _ _ _ (by rw [lv_dma, k_z3r]; exact h)
theorem above_b3 {n : ℕ} (h : n < 4) (d : Dev nD) : Above n (b3 d) := above_sumL _ _ (above_t4 h d)
theorem above_b2 {n : ℕ} (h : n < 4) (d : Dev nD) : Above n (b2 d) := above_add (above_sumL _ _ (above_t3 h d)) (above_b3 h d)
theorem above_b1 {n : ℕ} (h : n < 3) (d : Dev nD) : Above n (b1 d) :=
  above_add (above_sumL _ _ (above_t2 h d)) (above_b2 (by omega) d)
theorem above_b0 {n : ℕ} (h : n < 2) (d : Dev nD) : Above n (b0 d) :=
  above_add (above_sumL _ _ (above_t1 h d)) (above_b1 (by omega) d)

end Cert.KernelIdeal

end
-- ==== Proof.Steps.lean ====
module

public import proofs.«01_k».proof.Proof.Sched
public import Idealize.ShloMosaic.Lib.Pipeline.Value

/-!
# One step of the kernel each

Each effect of the loops, from what it needs to what it leaves.
-/

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

abbrev 𝒱₀ : Variants := Variants.none

/-- Program `p` on device `d` runs, and ends with `Φ`. -/
abbrev runs {α : Type} (d : Dev nD) (p : KProg F α) (Φ : α → sProp 𝕄) : sProp 𝕄 :=
  wp frame (wpE (defs₀ (F := F)) 𝒱₀ (d : Thread nD τ) none) Set.univ p Φ

/-- The protocol's cells. -/
abbrev kcell (ck : Dev nD × Option (DmaSem sig)) : GSem nD τ sig :=
  match ck.2 with | none => bar ck.1 | some q => cel ck.1 q

/-- Every cell's invariant holds and its round is reached; the levels. -/
def recs : sProp 𝕄 :=
  bigSep Finset.univ fun ck : Dev nD × Option (DmaSem sig) => iprop((∃ κ : ℕ, cellInv ER (rd m) κ (kcell ck)) ∗ reached ER (kcell ck) 0)
instance recs_persistent : BI.Persistent (recs (F := F) m) := by unfold recs; infer_instance
def ctx : sProp 𝕄 := iprop(recs m ∗ levAts L lv)
instance ctx_persistent : BI.Persistent (ctx (F := F) m) := by unfold ctx; infer_instance

theorem ctx_dma (d : Dev nD) (q : DmaSem sig) :
    ctx m ⊢ iprop((∃ κ : ℕ, cellInv ER (rd m) κ (cel d q)) ∗ reached ER (cel d q) 0) := by
  unfold ctx recs
  exact (sep_elim_left).trans (bigSep_elim (Finset.mem_univ (d, some q)))
theorem ctx_bar (d : Dev nD) :
    ctx m ⊢ iprop((∃ κ : ℕ, cellInv ER (rd m) κ (bar d)) ∗ reached ER (bar d) 0) := by
  unfold ctx recs
  exact (sep_elim_left).trans (bigSep_elim (Finset.mem_univ (d, none)))
theorem ctx_lev : ctx m ⊢ levAts L lv := by unfold ctx; exact sep_elim_right

/-- What device `d` owes, whatever it has waited for. -/
def ow (d : Dev nD) (O : Owed) : sProp 𝕄 := iprop(∃ W, owes (d : Thread nD τ) O W)
/-- Its position, the duty's token, the credits and the counter of a DMA cell. -/
def att (d : Dev nD) (q : DmaSem sig) : sProp 𝕄 := atPos ER (cel d q) 0 ∅ 0
def tk (d : Dev nD) (q : DmaSem sig) : sProp 𝕄 := dutyTok ER (cel d q) 0 0
def cr (d : Dev nD) (q : DmaSem sig) : sProp 𝕄 := cred (tallyAt (cel d q) () (amt (kindOf q)))
def zer (d : Dev nD) (q : DmaSem sig) : sProp 𝕄 := semVal (cel d q) 0

/-- A step at the head of a program. -/
theorem seq {α β : Type} {d : Dev nD} {p : KProg F α} {P : sProp 𝕄} {R : α → sProp 𝕄} (h : P ⊢ runs d p R)
    (k : α → KProg F β) (Φ : β → sProp 𝕄) :
    P ⊢ iprop((∀ a, R a -∗ runs d (k a) Φ) -∗ runs d (p >>= k) Φ) := by
  show P ⊢ iprop((∀ a, R a -∗ runs d (k a) Φ) -∗ wp _ _ _ (p >>= k) Φ)
  rw [wp_bind]
  exact h.trans (wp_wand frame _ _)

/-- A wait on a DMA cell of the device's: the payload comes, and the cell is done with. -/
theorem wait_step (d : Dev nD) (q : DmaSem sig) {w : TpuEff nD τ sig (Elt F) Λ₀ .tc PUnit}
    (hw : ∀ K : PUnit → sProp 𝕄, wpE (defs₀ (F := F)) 𝒱₀ (d : Thread nD τ) none Set.univ w K
      = waitSpec (d : Thread nD τ) Set.univ (.dma q) (amt (kindOf q)) K)
    (O : Owed) (h : Above (lvK (kindOf q)) O) :
    iprop(ctx m ∗ cr d q ∗ att d q ∗ ow d O) ⊢ runs d (Prog.lift w) (fun _ => iprop(ow d O ∗ pay m d (kindOf q) ∗ zer d q)) := by
  unfold cr att ow zer
  iintro ⟨#HC, Hcr, Hat, ⟨%W, HO⟩⟩
  ihave HR := (ctx_dma m d q) $$ HC
  icases HR with ⟨⟨%κ, #HI⟩, #Hr⟩
  unfold runs
  simp only [Prog.lift]
  iapply (Rounds.wp_wait_rest_token 𝒱₀ ER (rd m) (d : Thread nD τ) none (κ := κ) hw (Set.mem_univ _) () (O := O) (W := W)
    (R := 0) (m := 0) (T := ∅) (by rw [Nat.zero_add, expect_dma])) $$ [Hcr Hat HO]
  · isplitr; · iexact HI
    isplitl [Hcr]; · iexact Hcr
    isplitl [HO]; · iexact HO
    isplitr
    · iapply (mayWait d (.dma q) O h)
      iapply (ctx_lev m); iexact HC
    · iexact Hat
  iintro ⟨HO, Hat, -, Hpay⟩
  ihave Hp := (Entails.of_eq (rest_dma m d q)) $$ Hpay
  ihave HZ := (Rounds.cell_close ER (rd m) (g := cel d q) (κ := κ) (Es := Set.univ) (Set.mem_univ κ) (fun h => h) (R := 1) (duties_later m _)) $$ [Hat]
  · isplitr; · iexact HI
    iexact Hat
  imod HZ
  rw [wp_ret]
  imodintro
  isplitl [HO]; · iexists _; iexact HO
  isplitl [Hp]; · iexact Hp
  iexact HZ

theorem credit_ch (b : Memref sig .tc .vmem S4096x1024 .bf16) (c : Fin 16) : (ch b c).view.dmaCredit = N := rfl
theorem credit_st (c : Fin 16) : (stS c).view.dmaCredit = NI := rfl

/-- A chunk sent to device `p`. -/
theorem send_step (d p : Dev nD) (a b : Memref sig .tc .vmem S4096x1024 .bf16) (ha : a.IsWhole) (hb : b.IsWhole) (c : Fin 16)
    (s r : DmaSem sig) (q : PosShare TreeShare) (V : S256x1024.Idx → Elt F .bf16)
    (hs : pay m d (kindOf s) = hold m (ch a c) d q V) (hr : pay m p (kindOf r) = hold m (ch b c) p fullShare V)
    (hS : amt (kindOf s) = N) (hR : amt (kindOf r) = N) {O₁ : Owed} (O : Owed) (hO : O₁ = O + tallyAt (cel p r) () N) :
    iprop(ctx m ∗ hold m (ch a c) d q V ∗ junk m (ch b c) p ∗ ow d O₁ ∗ tk d s ∗ tk p r)
      ⊢ runs d (sendC p a b ha hb c s r) (fun _ => iprop(cr d s ∗ ow d O)) := by
  unfold junk
  rw [show (cr d s : sProp 𝕄) = cred (tallyAt (cel d s) () N) by unfold cr; rw [hS]]
  unfold ow tk
  iintro ⟨#HC, Ha, ⟨%Y, Hb⟩, ⟨%W, HO⟩, Hs, Hr⟩
  ihave H1 := (ctx_dma m d s) $$ HC
  icases H1 with ⟨⟨%κ₁, #HI₁⟩, #Hr₁⟩
  ihave H2 := (ctx_dma m p r) $$ HC
  icases H2 with ⟨⟨%κ₂, #HI₂⟩, #Hr₂⟩
  unfold runs sendC
  simp only [Prog.lift]
  unfold hold
  iapply (Rounds.wp_send_pointsTo 𝒱₀ ER (rd m) (d : Thread nD τ) none (κ₁ := κ₁) (κ₂ := κ₂) (r₁ := 0) (r₂ := 0) (d₁ := 0) (d₂ := 0)
      (c' := (p : Thread nD τ)) (src := ch a c) (dst := ch b c) (sS := .dma s) (sem := .dma r) (W := W)
      (fd := (ch b c).view.write (Elt F) (m ((ch b c).view.loc (p : Thread nD τ))) Y Finset.univ)
      (by rw [duties_dma]; exact Finset.mem_singleton_self _) (by rw [duties_dma]; exact Finset.mem_singleton_self _)
      () () N rfl hS hR O hO
      (by show _ ⊢ pay m d (kindOf s); rw [hs]; unfold hold; exact .rfl)
      (by show _ ⊢ pay m p (kindOf r); rw [hr]; refine Entails.of_eq ((hold_write m _ _ _ _ _).trans ?_); rw [View.read_write_univ])) $$ [Ha Hb HO Hs Hr]
  · isplitr; · iexact HI₁
    isplitr; · iexact HI₂
    isplitl [Ha]; · iexact Ha
    isplitl [Hb]; · iexact Hb
    isplitl [HO]; · iexact HO
    isplitl [Hs]; · iexact Hs
    isplitr; · iexact Hr₁
    isplitl [Hr]; · iexact Hr
    iexact Hr₂
  iintro ⟨Hc, HO⟩
  rw [wp_ret]
  imodintro
  isplitl [Hc]; · iexact Hc
  iexists W; iexact HO

/-- A chunk out to the result. -/
theorem out_step (d : Dev nD) (b : Memref sig .tc .vmem S4096x1024 .bf16) (hb : b.IsWhole) (c : Fin 16)
    (o : Memref sig .tc .hbm S256x1024 .bf16) (ho : o.view.WordExact) (s : DmaSem sig) (q : PosShare TreeShare)
    (V : S256x1024.Idx → Elt F .bf16) (hs : pay m d (kindOf s) = iprop(hold m o d fullShare V ∗ hold m (ch b c) d q V))
    (hS : amt (kindOf s) = N) (hN : o.view.dmaCredit = N) :
    iprop(ctx m ∗ hold m (ch b c) d q V ∗ junk m o d ∗ tk d s) ⊢ runs d (outC b hb c o ho s) (fun _ => cr d s) := by
  unfold junk
  rw [show (cr d s : sProp 𝕄) = cred (tallyAt (cel d s) () N) by unfold cr; rw [hS]]
  unfold tk
  iintro ⟨#HC, Ha, ⟨%Y, Hb⟩, Hs⟩
  ihave H1 := (ctx_dma m d s) $$ HC
  icases H1 with ⟨⟨%κ₁, #HI₁⟩, #Hr₁⟩
  unfold runs outC
  simp only [Prog.lift]
  unfold hold
  iapply (Rounds.wp_copy_pointsTo 𝒱₀ ER (rd m) (d : Thread nD τ) none (κ := κ₁) (r := 0) (d := 0)
      (src := ch b c) (dst := o) (sem := .dma s) (fd := o.view.write (Elt F) (m (o.view.loc (d : Thread nD τ))) Y Finset.univ)
      (by rw [duties_dma]; exact Finset.mem_singleton_self _) () N hN hS
      (by show _ ⊢ pay m d (kindOf s)
          rw [hs]
          refine sep_mono (Entails.of_eq ((hold_write m _ _ _ _ _).trans ?_)) (by unfold hold; exact .rfl)
          rw [View.read_write_univ])) $$ [Ha Hb Hs]
  · isplitr; · iexact HI₁
    isplitl [Ha]; · iexact Ha
    isplitl [Hb]; · iexact Hb
    isplitl [Hs]; · iexact Hs
    iexact Hr₁
  iintro Hc
  rw [wp_ret]
  imodintro
  iexact Hc

/-- A chunk into its staging slot. -/
theorem in_step (d : Dev nD) (c : Fin 16) :
    iprop(ctx m ∗ hold m (xS d c) d fullShare (X m d c) ∗ junk m (stS c) d ∗ tk d (sm cc0_scratch6 c))
      ⊢ runs d (inStart d c) (fun _ => cr d (sm cc0_scratch6 c)) := by
  have hS : amt (kindOf (sm cc0_scratch6 c)) = NI := by rw [k_inn]; rfl
  unfold junk
  rw [show (cr d (sm cc0_scratch6 c) : sProp 𝕄) = cred (tallyAt (cel d (sm cc0_scratch6 c)) () NI) by unfold cr; rw [hS]]
  unfold tk
  iintro ⟨#HC, Ha, ⟨%Y, Hb⟩, Hs⟩
  ihave H1 := (ctx_dma m d (sm cc0_scratch6 c)) $$ HC
  icases H1 with ⟨⟨%κ₁, #HI₁⟩, #Hr₁⟩
  unfold runs inStart
  simp only [Prog.lift]
  unfold hold
  iapply (Rounds.wp_copy_pointsTo 𝒱₀ ER (rd m) (d : Thread nD τ) none (κ := κ₁) (r := 0) (d := 0)
      (src := xS d c) (dst := stS c) (sem := .dma (sm cc0_scratch6 c))
      (fd := (stS c).view.write (Elt F) (m ((stS c).view.loc (d : Thread nD τ))) Y Finset.univ)
      (by rw [duties_dma]; exact Finset.mem_singleton_self _) () NI rfl hS
      (by show _ ⊢ pay m d (kindOf (sm cc0_scratch6 c))
          rw [k_inn]; change _ ⊢ iprop(hold m (stS c) d fullShare (X m d c) ∗ hold m (xS d c) d fullShare (X m d c))
          refine sep_mono (Entails.of_eq ((hold_write m _ _ _ _ _).trans ?_)) (by unfold hold; exact .rfl)
          rw [View.read_write_univ])) $$ [Ha Hb Hs]
  · isplitr; · iexact HI₁
    isplitl [Ha]; · iexact Ha
    isplitl [Hb]; · iexact Hb
    isplitl [Hs]; · iexact Hs
    iexact Hr₁
  iintro Hc
  rw [wp_ret]
  imodintro
  iexact Hc

/-- A chunk loaded. -/
theorem ld_step (d : Dev nD) (b : Memref sig .tc .vmem S4096x1024 .bf16) (c : Fin 16) (q : PosShare TreeShare)
    (V : S256x1024.Idx → Elt F .bf16) :
    hold m (ch b c) d q V ⊢ runs d (ldC b c) (fun v => iprop(⌜v = V⌝ ∗ hold m (ch b c) d q V)) := by
  unfold runs ldC
  simp only [Prog.lift]
  unfold hold
  iintro H
  iapply (wp_load_rect 𝒱₀ (d : Thread nD τ) none Set.univ (m := b) (r := chR c) (S := (ch b c).view.set) (q := q) (Finset.Subset.refl _)) $$ H
  iintro H
  rw [wp_ret]
  imodintro
  isplitr
  · ipureintro; exact View.read_write_univ _ _
  · iexact H

/-- A chunk stored. -/
theorem st_step (d : Dev nD) (b : Memref sig .tc .vmem S4096x1024 .bf16) (hb : b.IsWhole) (c : Fin 16) (v : FVec F S256x1024 .bf16) :
    junk m (ch b c) d ⊢ runs d (stC b hb c v) (fun _ => hold m (ch b c) d fullShare v) := by
  unfold runs stC junk
  simp only [Prog.lift]
  iintro ⟨%Y, H⟩
  rw [← hold_write m (ch b c) d fullShare ((ch b c).view.write (Elt F) (m ((ch b c).view.loc (d : Thread nD τ))) Y Finset.univ) v]
  unfold hold
  iapply (wp_store 𝒱₀ (d : Thread nD τ) none Set.univ (m := b) (r := chR c) (S := (ch b c).view.set) (Mk := Finset.univ)
    (Finset.Subset.refl _)) $$ H
  iintro H
  rw [wp_ret]
  imodintro
  iexact H

/-- A staging slot loaded. -/
theorem ldS_step (d : Dev nD) (c : Fin 16) (V : FVec F S256x1024 .f32) :
    hold m (stS c) d fullShare V ⊢ runs d (Prog.lift (.load stM (stR c).toLoadRect (View.loadsAt_vmem h_S1x256x1024)) : KProg F (Vec F S1x256x1024 .f32))
      (fun v => iprop(⌜castP v = truncf .bf16 V bitsLt_bf16_f32⌝ ∗ hold m (stS c) d fullShare V)) := by
  unfold runs
  simp only [Prog.lift]
  unfold hold
  iintro H
  iapply (wp_load_rect 𝒱₀ (d : Thread nD τ) none Set.univ (m := stM) (r := stR c) (S := (stS c).view.set) (q := fullShare)
    (le_of_eq (View.set_reshape (v := (stM.view.slice (stR c))) _).symm)) $$ H
  iintro H
  rw [wp_ret]
  imodintro
  isplitr
  · ipureintro
    unfold castP
    rw [shapeCast_self]
    congr 1
    exact View.read_write_univ (v := (stS c).view) _ _
  · iexact H

end Cert.KernelIdeal

end
-- ==== Proof.Loops.lean ====
module

public import proofs.«01_k».proof.Proof.Steps

/-!
# The loops

Each loop at one chunk, from what the chunk needs to what it leaves, and then over the list of the chunks.
-/

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-- A step at the end of a program. -/
theorem last {α : Type} {d : Dev nD} {p : KProg F α} {P : sProp 𝕄} {R : α → sProp 𝕄} (h : P ⊢ runs d p R) (Φ : α → sProp 𝕄) :
    P ⊢ iprop((∀ a, R a -∗ Φ a) -∗ runs d p Φ) := h.trans (wp_wand frame _ _)

/-- A step for each of a list, something owed beside. -/
theorem each_wp {α : Type} (d : Dev nD) (f : α → KProg F PUnit) (P R : α → sProp 𝕄) (I : List α → sProp 𝕄)
    (h : ∀ a l, iprop(ctx m ∗ P a ∗ I (a :: l)) ⊢ runs d (f a) (fun _ => iprop(R a ∗ I l))) (l : List α) :
    iprop(ctx m ∗ bigSepL l P ∗ I l) ⊢ runs d (each l f) (fun _ => iprop(bigSepL l R ∗ I [])) := by
  induction l with
  | nil =>
    show _ ⊢ wp _ _ _ (Prog.ret PUnit.unit) _
    rw [wp_ret, bigSepL_nil, bigSepL_nil]
    iintro ⟨-, HP, HI⟩
    imodintro
    isplitl [HP] <;> iassumption
  | cons a l ih =>
    rw [bigSepL_cons', bigSepL_cons']
    unfold each
    iintro ⟨#HC, ⟨Ha, Hl⟩, HI⟩
    iapply (seq (h a l) _ _) $$ [Ha HI]
    · isplitr; · iexact HC
      isplitl [Ha] <;> iassumption
    iintro %_ ⟨Ha, HI⟩
    iapply (last ih _) $$ [Hl HI]
    · isplitr; · iexact HC
      isplitl [Hl] <;> iassumption
    iintro %_ ⟨Hl, HI⟩
    isplitl [Ha Hl]
    · isplitl [Ha] <;> iassumption
    · iexact HI

/-- A wait of a chunk's copy. -/
theorem waitC_step (d : Dev nD) (q : DmaSem sig) (k : Knd) (hk : kindOf q = k) (hN : amt k = N)
    (a b : Memref sig .tc .vmem S4096x1024 .bf16) (ha : a.IsWhole) (hb : b.IsWhole) (c : Fin 16)
    (O : Owed) (h : Above (lvK k) O) :
    iprop(ctx m ∗ cr d q ∗ att d q ∗ ow d O) ⊢ runs d (waitC q a b ha hb c) (fun _ => iprop(ow d O ∗ pay m d k ∗ zer d q)) := by
  subst hk
  exact wait_step m d q (fun K => by rw [hN]; exact wpE_waitDma2_eq 𝒱₀ (d : Thread nD τ) none Set.univ K) O h

/-- A wait of a copy out. -/
theorem outW_step (d : Dev nD) (q : DmaSem sig) (k : Knd) (hk : kindOf q = k) (hN : amt k = N)
    (b : Memref sig .tc .vmem S4096x1024 .bf16) (hb : b.IsWhole) (c : Fin 16)
    (o : Memref sig .tc .hbm S256x1024 .bf16) (ho : o.view.WordExact) (hoN : o.view.dmaCredit = N)
    (O : Owed) (h : Above (lvK k) O) :
    iprop(ctx m ∗ cr d q ∗ att d q ∗ ow d O) ⊢ runs d (outW q b hb c o ho) (fun _ => iprop(ow d O ∗ pay m d k ∗ zer d q)) := by
  subst hk
  exact wait_step m d q (fun K => by rw [hN, ← hoN]; exact wpE_waitDma2_eq 𝒱₀ (d : Thread nD τ) none Set.univ K) O h

/-- A wait of a chunk's copy in. -/
theorem inW_step (d : Dev nD) (c : Fin 16) (O : Owed) (h : Above 0 O) :
    iprop(ctx m ∗ cr d (sm cc0_scratch6 c) ∗ att d (sm cc0_scratch6 c) ∗ ow d O)
      ⊢ runs d (inWait d c) (fun _ => iprop(ow d O ∗ pay m d (.inn c) ∗ zer d (sm cc0_scratch6 c))) := by
  have hk := k_inn c
  have := wait_step m d (sm cc0_scratch6 c) (w := .waitDma2 (sm cc0_scratch6 c) (xS d c) (stS c) (View.wordExact_bits rfl) ((View.wordExact_bits rfl).reshape _ _))
    (fun K => by rw [hk]; exact wpE_waitDma2_eq 𝒱₀ (d : Thread nD τ) none Set.univ K) O (by rw [hk]; exact h)
  rw [hk] at this
  exact this

/-! ## The barrier -/

def Pb (d : Dev nD) : sProp 𝕄 :=
  iprop(dutyTok ER (bar (xn d)) 0 0 ∗ dutyTok ER (bar (yn d)) 0 1 ∗ dutyTok ER (bar (zn d)) 0 2
    ∗ cred (tallyAt (bar d) () 3) ∗ atPos ER (bar d) 0 ∅ 0
    ∗ (bigSepL all16 fun c => junk m (ch bA c) d)
    ∗ ((bigSepL all16 fun c => junk m (ch bY c) d) ∗ bigSepL all8 fun j => junk m (ch bD (lo j)) d)
    ∗ ((bigSepL all16 fun c => junk m (ch bZ c) d) ∗ bigSepL all8 fun j => junk m (ch bD (hi j)) d))
def Rb (d : Dev nD) : sProp 𝕄 :=
  iprop((bigSepL all16 fun c => junk m (ch bA c) (xn d))
    ∗ ((bigSepL all16 fun c => junk m (ch bY c) (yn d)) ∗ bigSepL all8 fun j => junk m (ch bD (lo j)) (yn d))
    ∗ ((bigSepL all16 fun c => junk m (ch bZ c) (zn d)) ∗ bigSepL all8 fun j => junk m (ch bD (hi j)) (zn d))
    ∗ semVal (bar d) 0)

theorem barrier_step (d : Dev nD) :
    iprop(ctx m ∗ Pb m d ∗ ow d (O₀ d)) ⊢ runs d (barrierP d) (fun _ => iprop(Rb m d ∗ ow d (b0 d))) := by
  unfold Pb Rb ow
  iintro ⟨#HC, ⟨Hx, Hy, Hz, Hc, Hat, HA, HY, HZ⟩, ⟨%W, HO⟩⟩
  ihave H0 := (ctx_bar m d) $$ HC
  icases H0 with ⟨⟨%κ, #HI⟩, #Hr⟩
  ihave H1 := (ctx_bar m (xn d)) $$ HC
  icases H1 with ⟨⟨%κ₁, #HI₁⟩, #Hr₁⟩
  ihave H2 := (ctx_bar m (yn d)) $$ HC
  icases H2 with ⟨⟨%κ₂, #HI₂⟩, #Hr₂⟩
  ihave H3 := (ctx_bar m (zn d)) $$ HC
  icases H3 with ⟨⟨%κ₃, #HI₃⟩, #Hr₃⟩
  unfold runs barrierP
  simp only [semSignalWord, semWaitWord, Prog.lift, Prog.bind_op, Prog.bind_ret, Prog.pure_eq_ret]
  iapply (Rounds.wp_signal 𝒱₀ ER (rd m) (d : Thread nD τ) none (dst := (xn d : Thread nD τ)) (κ := κ₁) (d := 0)
      (by rw [duties_bar]; exact Finset.mem_univ _) (by rfl) ()
      (b0 d + tallyAt (bar (zn d)) () 1 + tallyAt (bar (yn d)) () 1) rfl) $$ [HO Hx HA]
  · isplitr; · iexact HI₁
    isplitl [HO]; · iexact HO
    isplitl [Hx]; · iexact Hx
    isplitl [HA]
    · rw [show (rd m).payload (bar (xn d)) 0 0 = bigSepL all16 fun c => junk m (ch bA c) d from by
        show barPay m (xn d) 0 = _
        unfold barPay; rw [if_pos rfl, xn_xn]]
      iexact HA
    iexact Hr₁
  iintro HO
  iapply (Rounds.wp_signal 𝒱₀ ER (rd m) (d : Thread nD τ) none (dst := (yn d : Thread nD τ)) (κ := κ₂) (d := 1)
      (by rw [duties_bar]; exact Finset.mem_univ _) (by rfl) ()
      (b0 d + tallyAt (bar (zn d)) () 1) rfl) $$ [HO Hy HY]
  · isplitr; · iexact HI₂
    isplitl [HO]; · iexact HO
    isplitl [Hy]; · iexact Hy
    isplitl [HY]
    · rw [show (rd m).payload (bar (yn d)) 0 1
          = iprop((bigSepL all16 fun c => junk m (ch bY c) d) ∗ bigSepL all8 fun j => junk m (ch bD (lo j)) d) from by
        show barPay m (yn d) 1 = _
        unfold barPay; rw [if_neg (by decide), if_pos rfl, yn_yn]]
      iexact HY
    iexact Hr₂
  iintro HO
  iapply (Rounds.wp_signal 𝒱₀ ER (rd m) (d : Thread nD τ) none (dst := (zn d : Thread nD τ)) (κ := κ₃) (d := 2)
      (by rw [duties_bar]; exact Finset.mem_univ _) (by rfl) ()
      (b0 d) rfl) $$ [HO Hz HZ]
  · isplitr; · iexact HI₃
    isplitl [HO]; · iexact HO
    isplitl [Hz]; · iexact Hz
    isplitl [HZ]
    · rw [show (rd m).payload (bar (zn d)) 0 2
          = iprop((bigSepL all16 fun c => junk m (ch bZ c) d) ∗ bigSepL all8 fun j => junk m (ch bD (hi j)) d) from by
        show barPay m (zn d) 2 = _
        unfold barPay; rw [if_neg (by decide), if_neg (by decide), zn_zn]]
      iexact HZ
    iexact Hr₃
  iintro HO
  iapply (Rounds.wp_wait_rest_token 𝒱₀ ER (rd m) (d : Thread nD τ) none (κ := κ) (wpE_semWait_eq 𝒱₀ (d : Thread nD τ) none Set.univ)
    (Set.mem_univ _) () (O := b0 d) (W := W) (R := 0) (m := 0) (T := ∅) (by rw [expect_bar]; decide)) $$ [Hc Hat HO]
  · isplitr; · iexact HI
    isplitl [Hc]; · iexact Hc
    isplitl [HO]; · iexact HO
    isplitr
    · iapply (mayWait d (.reg barS.sem) (b0 d) (above_b0 (by show 1 < 2; decide) d))
      iapply (ctx_lev m); iexact HC
    · iexact Hat
  iintro ⟨HO, Hat, -, Hpay⟩
  ihave Hp := (Entails.of_eq (rest_bar m d)) $$ Hpay
  ihave HZ := (Rounds.cell_close ER (rd m) (g := bar d) (κ := κ) (Es := Set.univ) (Set.mem_univ κ) (fun h => h) (R := 1) (duties_later m _)) $$ [Hat]
  · isplitr; · iexact HI
    iexact Hat
  imod HZ
  rw [wp_ret]
  imodintro
  unfold barPay
  rw [if_pos rfl, if_neg (by decide), if_pos rfl, if_neg (by decide), if_neg (by decide)]
  icases Hp with ⟨H1, H2, H3⟩
  isplitr [HO]
  · isplitl [H1]; · iexact H1
    isplitl [H2]; · iexact H2
    isplitl [H3]; · iexact H3
    iexact HZ
  · iexists _; iexact HO

/-! ## Loop 1 -/

def P1 (d : Dev nD) (a : Fin 16) : sProp 𝕄 :=
  iprop(att d (sm cc0_scratch6 a) ∗ junk m (ch bQ a) d ∗ tk d (sm cc0_scratch7 a) ∗ tk (xn d) (sm cc0_scratch8 a) ∗ junk m (ch bA a) (xn d))
/-- What a chunk's copy in needs besides its slot. -/
def PI (d : Dev nD) (a : Fin 16) : sProp 𝕄 :=
  iprop(hold m (xS d a) d fullShare (X m d a) ∗ tk d (sm cc0_scratch6 a))
def R1 (d : Dev nD) (a : Fin 16) : sProp 𝕄 :=
  iprop(hold m (xS d a) d fullShare (X m d a) ∗ hold m (ch bQ a) d fullShare.right (Q m d a) ∗ cr d (sm cc0_scratch7 a)
    ∗ zer d (sm cc0_scratch6 a))

theorem loop1a_step (d : Dev nD) (a : Fin 16) (O : Owed) (h : Above 0 O) :
    iprop(ctx m ∗ cr d (sm cc0_scratch6 a) ∗ att d (sm cc0_scratch6 a) ∗ junk m (ch bQ a) d ∗ ow d O)
      ⊢ runs d (loop1a d a) (fun _ => iprop(ow d O ∗ hold m (xS d a) d fullShare (X m d a) ∗ junk m (stS a) d
          ∗ hold m (ch bQ a) d fullShare (Q m d a) ∗ zer d (sm cc0_scratch6 a))) := by
  unfold loop1a
  iintro ⟨#HC, Hc, Hat, HQ, HO⟩
  iapply (seq (inW_step m d a O h) _ _) $$ [Hc Hat HO]
  · isplitr; · iexact HC
    isplitl [Hc]; · iexact Hc
    isplitl [Hat] <;> iassumption
  iintro %_ ⟨HO, Hp, Hz⟩
  unfold pay
  icases Hp with ⟨Hst, Hx⟩
  iapply (seq (ldS_step m d a (X m d a)) _ _) $$ Hst
  iintro %v ⟨%hv, Hst⟩
  unfold junk
  icases HQ with ⟨%Y, HQ⟩
  iapply (seq (ld_step m d bQ a fullShare Y) _ _) $$ HQ
  iintro %_ ⟨-, HQ⟩
  rw [hv]
  iapply (last (st_step m d bQ hQ a (Q m d a)) _) $$ [HQ]
  · unfold junk; iexists Y; iexact HQ
  iintro %_ HQ
  isplitl [HO]; · iexact HO
  isplitl [Hx]; · iexact Hx
  isplitl [Hst]; · iexists _; iexact Hst
  isplitl [HQ] <;> iassumption

theorem loop1b_step (d : Dev nD) (a : Fin 16) (l : List (Fin 16)) :
    iprop(ctx m ∗ hold m (ch bQ a) d fullShare (Q m d a) ∗ tk d (sm cc0_scratch7 a) ∗ tk (xn d) (sm cc0_scratch8 a)
        ∗ junk m (ch bA a) (xn d) ∗ ow d (sumL (a :: l) (t1 d) + b1 d))
      ⊢ runs d (loop1b d a) (fun _ => iprop(hold m (ch bQ a) d fullShare.right (Q m d a) ∗ cr d (sm cc0_scratch7 a)
          ∗ ow d (sumL l (t1 d) + b1 d))) := by
  unfold loop1b
  rw [xn'_eq]
  iintro ⟨#HC, HQ, Hs, Hr, HA, HO⟩
  ihave HQ' := (Entails.of_eq (hold_halve m (ch bQ a) d fullShare (Q m d a))) $$ HQ
  icases HQ' with ⟨HQ1, HQ2⟩
  iapply (last (send_step m d (xn d) bQ bA hQ hA a (sm cc0_scratch7 a) (sm cc0_scratch8 a) fullShare.left (Q m d a)
    (by rw [k_s1s]; rfl) (by rw [k_s1r]; unfold pay; rw [xn_xn]) (by rw [k_s1s]; rfl) (by rw [k_s1r]; rfl)
    (O₁ := sumL (a :: l) (t1 d) + b1 d) (sumL l (t1 d) + b1 d)
    (by rw [sumL_cons]; show t1 d a + _ + _ = _ + t1 d a; ac_rfl)) _) $$ [HQ1 HA HO Hs Hr]
  · isplitr; · iexact HC
    isplitl [HQ1]; · iexact HQ1
    isplitl [HA]; · iexact HA
    isplitl [HO]; · iexact HO
    isplitl [Hs] <;> iassumption
  iintro %_ ⟨Hc, HO⟩
  isplitl [HQ2]; · iexact HQ2
  isplitl [Hc] <;> iassumption

/-- Neighbours in the list use different slots. -/
def Alt : List (Fin 16) → Prop
  | a :: b :: l => a.val % 2 ≠ b.val % 2 ∧ Alt (b :: l)
  | _ => True

theorem slot_eq {a b : Fin 16} (h : a.val % 2 = b.val % 2) : stS a = stS b := by
  have aux : ∀ (p q : ℕ) (hp : ∀ i, (![p, 0, 0] : Fin 3 → Nat) i + S1x256x1024.size i ≤ S2x256x1024.size i)
      (hq : ∀ i, (![q, 0, 0] : Fin 3 → Nat) i + S1x256x1024.size i ≤ S2x256x1024.size i), p = q →
      (stM.slice (Rect.unit (s := S2x256x1024) ![p, 0, 0] S1x256x1024.size hp) (fun _ => rfl)).squeeze S256x1024 squeezes_S1x256x1024_S256x1024
        = (stM.slice (Rect.unit (s := S2x256x1024) ![q, 0, 0] S1x256x1024.size hq) (fun _ => rfl)).squeeze S256x1024 squeezes_S1x256x1024_S256x1024 := by
    intro p q hp hq e; subst e; rfl
  exact aux _ _ _ _ h

theorem slots_end (d : Dev nD) {a b : Fin 16} (h : a.val % 2 ≠ b.val % 2) :
    iprop(junk m (stS a) d ∗ junk m (stS b) d) ⊢ iprop(junk m (stS 0) d ∗ junk m (stS 1) d) := by
  rcases Nat.mod_two_eq_zero_or_one a.val with ha | ha
  · rw [slot_eq (a := a) (b := 0) ha, slot_eq (a := b) (b := 1) (by show b.val % 2 = 1; omega)]
  · rw [slot_eq (a := a) (b := 1) ha, slot_eq (a := b) (b := 0) (by show b.val % 2 = 0; omega)]
    iintro ⟨H1, H0⟩
    isplitl [H0] <;> iassumption

theorem above_l1 (d : Dev nD) (l : List (Fin 16)) : Above 0 (sumL l (t1 d) + b1 d) :=
  above_add (above_sumL _ _ (above_t1 (by decide) d)) (above_b1 (by decide) d)

theorem loop1_two (d : Dev nD) (a b : Fin 16) : (loop1 d [a, b] : KProg F PUnit)
    = (loop1a d a >>= fun _ => loop1b d a >>= fun _ => loop1a d b >>= fun _ => loop1b d b >>= fun _ => Prog.ret PUnit.unit) := rfl
theorem loop1_more (d : Dev nD) (a b c : Fin 16) (l : List (Fin 16)) : (loop1 d (a :: b :: c :: l) : KProg F PUnit)
    = (loop1a d a >>= fun _ => inStart d c >>= fun _ => loop1b d a >>= fun _ => loop1 d (b :: c :: l)) := rfl

/-- The last two chunks. -/
theorem loop1_end (d : Dev nD) (a b : Fin 16) (hl : a.val % 2 ≠ b.val % 2) :
    iprop(ctx m ∗ (P1 m d a ∗ P1 m d b) ∗ cr d (sm cc0_scratch6 a) ∗ cr d (sm cc0_scratch6 b)
        ∗ ow d (sumL [a, b] (t1 d) + b1 d))
      ⊢ runs d (loop1 d [a, b]) (fun _ => iprop((R1 m d a ∗ R1 m d b) ∗ junk m (stS 0) d ∗ junk m (stS 1) d
          ∗ ow d (sumL [] (t1 d) + b1 d))) := by
  rw [loop1_two]
  unfold P1 R1
  iintro ⟨#HC, ⟨⟨Hat, HQ, Hs, Hr, HA⟩, Hat', HQ', Hs', Hr', HA'⟩, Hc, Hc', HO⟩
  iapply (seq (loop1a_step m d a _ (above_l1 d _)) _ _) $$ [Hc Hat HQ HO]
  · isplitr; · iexact HC
    isplitl [Hc]; · iexact Hc
    isplitl [Hat]; · iexact Hat
    isplitl [HQ] <;> iassumption
  iintro %_ ⟨HO, Hx, Hst, HQ, Hz⟩
  iapply (seq (loop1b_step m d a [b]) _ _) $$ [HQ Hs Hr HA HO]
  · isplitr; · iexact HC
    isplitl [HQ]; · iexact HQ
    isplitl [Hs]; · iexact Hs
    isplitl [Hr]; · iexact Hr
    isplitl [HA] <;> iassumption
  iintro %_ ⟨HQ, Hcs, HO⟩
  iapply (seq (loop1a_step m d b _ (above_l1 d _)) _ _) $$ [Hc' Hat' HQ' HO]
  · isplitr; · iexact HC
    isplitl [Hc']; · iexact Hc'
    isplitl [Hat']; · iexact Hat'
    isplitl [HQ'] <;> iassumption
  iintro %_ ⟨HO, Hx', Hst', HQ', Hz'⟩
  iapply (seq (loop1b_step m d b []) _ _) $$ [HQ' Hs' Hr' HA' HO]
  · isplitr; · iexact HC
    isplitl [HQ']; · iexact HQ'
    isplitl [Hs']; · iexact Hs'
    isplitl [Hr']; · iexact Hr'
    isplitl [HA'] <;> iassumption
  iintro %_ ⟨HQ', Hcs', HO⟩
  unfold runs
  rw [wp_ret]
  imodintro
  ihave Hsl := (slots_end m d hl) $$ [Hst Hst']
  · isplitl [Hst] <;> iassumption
  icases Hsl with ⟨Hst, Hst'⟩
  isplitl [Hx HQ Hcs Hz Hx' HQ' Hcs' Hz']
  · isplitl [Hx HQ Hcs Hz]
    · isplitl [Hx]; · iexact Hx
      isplitl [HQ]; · iexact HQ
      isplitl [Hcs] <;> iassumption
    · isplitl [Hx']; · iexact Hx'
      isplitl [HQ']; · iexact HQ'
      isplitl [Hcs'] <;> iassumption
  isplitl [Hst]; · iexact Hst
  isplitl [Hst'] <;> iassumption

theorem loop1_step (d : Dev nD) (l : List (Fin 16)) : ∀ (a b : Fin 16), Alt (a :: b :: l) →
    (iprop(ctx m ∗ bigSepL (a :: b :: l) (P1 m d) ∗ cr d (sm cc0_scratch6 a) ∗ cr d (sm cc0_scratch6 b) ∗ bigSepL l (PI m d)
        ∗ ow d (sumL (a :: b :: l) (t1 d) + b1 d))
      ⊢ runs d (loop1 d (a :: b :: l)) (fun _ => iprop(bigSepL (a :: b :: l) (R1 m d) ∗ junk m (stS 0) d ∗ junk m (stS 1) d
          ∗ ow d (sumL [] (t1 d) + b1 d)))) := by
  induction l with
  | nil =>
    intro a b hl
    rw [bigSepL_nil, bigSepL_cons' a, bigSepL_cons' a, bigSepL_singleton, bigSepL_singleton]
    refine BIBase.Entails.trans ?_ (loop1_end m d a b hl.1)
    iintro ⟨#HC, HP, Hc, Hc', -, HO⟩
    isplitr; · iexact HC
    isplitl [HP]; · iexact HP
    isplitl [Hc]; · iexact Hc
    isplitl [Hc'] <;> iassumption
  | cons c l ih =>
    intro a b hl
    have hc : stS a = stS c := slot_eq (by have h1 := hl.1; have h2 := hl.2.1; omega)
    rw [loop1_more]
    rw [bigSepL_cons' a, bigSepL_cons' a, bigSepL_cons' c l]
    iintro ⟨#HC, ⟨HP, HPl⟩, Hc, Hc', ⟨HPI, HPIl⟩, HO⟩
    unfold P1 PI
    icases HP with ⟨Hat, HQ, Hs, Hr, HA⟩
    icases HPI with ⟨Hxc, Htc⟩
    iapply (seq (loop1a_step m d a _ (above_l1 d _)) _ _) $$ [Hc Hat HQ HO]
    · isplitr; · iexact HC
      isplitl [Hc]; · iexact Hc
      isplitl [Hat]; · iexact Hat
      isplitl [HQ] <;> iassumption
    iintro %_ ⟨HO, Hx, Hst, HQ, Hz⟩
    rw [hc]
    iapply (seq (in_step m d c) _ _) $$ [Hxc Htc Hst]
    · isplitr; · iexact HC
      isplitl [Hxc]; · iexact Hxc
      isplitl [Hst] <;> iassumption
    iintro %_ Hcc
    iapply (seq (loop1b_step m d a (b :: c :: l)) _ _) $$ [HQ Hs Hr HA HO]
    · isplitr; · iexact HC
      isplitl [HQ]; · iexact HQ
      isplitl [Hs]; · iexact Hs
      isplitl [Hr]; · iexact Hr
      isplitl [HA] <;> iassumption
    iintro %_ ⟨HQ, Hcs, HO⟩
    iapply (last (ih b c hl.2) _) $$ [HPl Hc' Hcc HPIl HO]
    · isplitr; · iexact HC
      unfold P1 PI
      isplitl [HPl]; · iexact HPl
      isplitl [Hc']; · iexact Hc'
      isplitl [Hcc]; · iexact Hcc
      isplitl [HPIl] <;> iassumption
    iintro %_ ⟨HR, H0, H1, HO⟩
    isplitr [H0 H1 HO]
    · isplitr [HR]
      · unfold R1
        isplitl [Hx]; · iexact Hx
        isplitl [HQ]; · iexact HQ
        isplitl [Hcs] <;> iassumption
      · iexact HR
    isplitl [H0]; · iexact H0
    isplitl [H1] <;> iassumption

theorem alt16 : Alt all16 := by simp [Alt]

/-! ## Loop 2 -/

def P2 (d : Dev nD) (c : Fin 16) : sProp 𝕄 :=
  iprop(cr d (sm cc0_scratch8 c) ∗ att d (sm cc0_scratch8 c) ∗ hold m (ch bQ c) d fullShare.right (Q m d c)
    ∗ tk d (sm cc0_scratch9 c) ∗ tk (yn d) (sm cc0_scratch10 c) ∗ junk m (ch bY c) (yn d)
    ∗ tk d (sm cc0_scratch11 c) ∗ tk (zn d) (sm cc0_scratch12 c) ∗ junk m (ch bZ c) (zn d)
    ∗ tk d (sm cc0_scratch17 c) ∗ junk m (oS1 d c) d)
def R2 (d : Dev nD) (c : Fin 16) : sProp 𝕄 :=
  iprop(hold m (ch bQ c) d fullShare.right (Q m d c)
    ∗ cr d (sm cc0_scratch9 c) ∗ cr d (sm cc0_scratch11 c) ∗ cr d (sm cc0_scratch17 c) ∗ zer d (sm cc0_scratch8 c))

theorem loop2_step (d : Dev nD) (c : Fin 16) (l : List (Fin 16)) :
    iprop(ctx m ∗ P2 m d c ∗ ow d (sumL (c :: l) (t2 d) + b2 d)) ⊢ runs d (loop2 d c) (fun _ => iprop(R2 m d c ∗ ow d (sumL l (t2 d) + b2 d))) := by
  unfold P2 R2 loop2
  rw [yn'_eq, zn'_eq]
  iintro ⟨#HC, ⟨Hc, Hat, HQ, Hys, Hyr, HY, Hzs, Hzr, HZ, Ho, HO1⟩, HO⟩
  iapply (seq (waitC_step m d (sm cc0_scratch8 c) (.s1r c) (k_s1r c) rfl bQ bA hQ hA c _
    (above_add (above_sumL _ _ (above_t2 (by show 2 < 3; decide) d)) (above_b2 (by show 2 < 4; decide) d))) _ _) $$ [Hc Hat HO]
  · isplitr; · iexact HC
    isplitl [Hc]; · iexact Hc
    isplitl [Hat] <;> iassumption
  iintro %_ ⟨HO, HA, Hz⟩
  unfold pay
  iapply (seq (ld_step m d bQ c fullShare.right (Q m d c)) _ _) $$ HQ
  iintro %v ⟨%hv, HQ⟩
  subst hv
  iapply (seq (ld_step m d bA c fullShare (Q m (xn d) c)) _ _) $$ HA
  iintro %w ⟨%hw, HA⟩
  subst hw
  iapply (seq (ld_step m d bA c fullShare (Q m (xn d) c)) _ _) $$ HA
  iintro %_ ⟨-, HA⟩
  have hadd : addP (Q m d c) (Q m (xn d) c) = A m d c := by unfold addP; rw [shapeCast_self]; rfl
  rw [hadd]
  iapply (seq (st_step m d bA hA c (A m d c)) _ _) $$ [HA]
  · unfold junk; iexists _; iexact HA
  iintro %_ HA
  ihave HA' := (Entails.of_eq (hold_halve m (ch bA c) d fullShare (A m d c))) $$ HA
  icases HA' with ⟨HA1, HA⟩
  ihave HA' := (Entails.of_eq (hold_halve m (ch bA c) d fullShare.right (A m d c))) $$ HA
  icases HA' with ⟨HA2, HA3⟩
  iapply (seq (send_step m d (yn d) bA bY hA hY c (sm cc0_scratch9 c) (sm cc0_scratch10 c) fullShare.left (A m d c)
    (by rw [k_ys]; rfl) (by rw [k_yr]; unfold pay; rw [yn_yn]) (by rw [k_ys]; rfl) (by rw [k_yr]; rfl)
    (O₁ := sumL (c :: l) (t2 d) + b2 d) (t2z d c + (sumL l (t2 d) + b2 d)) (by rw [sumL_cons]; show t2y d c + t2z d c + _ + _ = _ + t2y d c; ac_rfl)) _ _) $$ [HA1 HY HO Hys Hyr]
  · isplitr; · iexact HC
    isplitl [HA1]; · iexact HA1
    isplitl [HY]; · iexact HY
    isplitl [HO]; · iexact HO
    isplitl [Hys] <;> iassumption
  iintro %_ ⟨Hcy, HO⟩
  iapply (seq (send_step m d (zn d) bA bZ hA hZ c (sm cc0_scratch11 c) (sm cc0_scratch12 c) fullShare.right.left (A m d c)
    (by rw [k_zs]; rfl) (by rw [k_zr]; unfold pay; rw [zn_zn]) (by rw [k_zs]; rfl) (by rw [k_zr]; rfl)
    (sumL l (t2 d) + b2 d) (add_comm _ _)) _ _) $$ [HA2 HZ HO Hzs Hzr]
  · isplitr; · iexact HC
    isplitl [HA2]; · iexact HA2
    isplitl [HZ]; · iexact HZ
    isplitl [HO]; · iexact HO
    isplitl [Hzs] <;> iassumption
  iintro %_ ⟨Hcz, HO⟩
  iapply (last (out_step m d bA hA c (oS1 d c) (ho1 d c) (sm cc0_scratch17 c) fullShare.right.right (A m d c)
    (by rw [k_o1]; rfl) (by rw [k_o1]; rfl) rfl) _) $$ [HA3 HO1 Ho]
  · isplitr; · iexact HC
    isplitl [HA3]; · iexact HA3
    isplitl [HO1] <;> iassumption
  iintro %_ Hco
  isplitr [HO]
  · isplitl [HQ]; · iexact HQ
    isplitl [Hcy]; · iexact Hcy
    isplitl [Hcz]; · iexact Hcz
    isplitl [Hco] <;> iassumption
  · iexact HO

/-! ## Loop 3 -/

def P3a (d : Dev nD) (c : Fin 16) : sProp 𝕄 :=
  iprop(cr d (sm cc0_scratch10 c) ∗ att d (sm cc0_scratch10 c) ∗ junk m (oS2 d c) d ∗ tk d (sm cc0_scratch18 c))
def P3b (d : Dev nD) (c : Fin 16) : sProp 𝕄 :=
  iprop(cr d (sm cc0_scratch12 c) ∗ att d (sm cc0_scratch12 c) ∗ junk m (oS3 d c) d ∗ tk d (sm cc0_scratch19 c))
def R3a (d : Dev nD) (c : Fin 16) : sProp 𝕄 := iprop(cr d (sm cc0_scratch18 c) ∗ zer d (sm cc0_scratch10 c))
def R3b (d : Dev nD) (c : Fin 16) : sProp 𝕄 := iprop(cr d (sm cc0_scratch19 c) ∗ zer d (sm cc0_scratch12 c))

theorem loop3a_step (d : Dev nD) (c : Fin 16) (O : Owed) (h : Above 3 O) :
    iprop(ctx m ∗ P3a m d c ∗ ow d O)
      ⊢ runs d (loop3a d c) (fun _ => iprop(hold m (ch bY c) d fullShare.right (A m (yn d) c) ∗ R3a d c ∗ ow d O)) := by
  unfold P3a R3a loop3a
  iintro ⟨#HC, ⟨Hc, Hat, Ho, Ht⟩, HO⟩
  iapply (seq (waitC_step m d (sm cc0_scratch10 c) (.yr c) (k_yr c) rfl bA bY hA hY c O h) _ _) $$ [Hc Hat HO]
  · isplitr; · iexact HC
    isplitl [Hc]; · iexact Hc
    isplitl [Hat] <;> iassumption
  iintro %_ ⟨HO, HY, Hz⟩
  unfold pay
  ihave HY' := (Entails.of_eq (hold_halve m (ch bY c) d fullShare (A m (yn d) c))) $$ HY
  icases HY' with ⟨HY1, HY2⟩
  iapply (last (out_step m d bY hY c (oS2 d c) (ho2 d c) (sm cc0_scratch18 c) fullShare.left (A m (yn d) c)
    (by rw [k_o2]; rfl) (by rw [k_o2]; rfl) rfl) _) $$ [HY1 Ho Ht]
  · isplitr; · iexact HC
    isplitl [HY1]; · iexact HY1
    isplitl [Ho] <;> iassumption
  iintro %_ Hco
  isplitl [HY2]; · iexact HY2
  isplitr [HO]
  · isplitl [Hco] <;> iassumption
  · iexact HO

theorem loop3b_step (d : Dev nD) (c : Fin 16) (O : Owed) (h : Above 3 O) :
    iprop(ctx m ∗ P3b m d c ∗ ow d O)
      ⊢ runs d (loop3b d c) (fun _ => iprop(hold m (ch bZ c) d fullShare.right (A m (zn d) c) ∗ R3b d c ∗ ow d O)) := by
  unfold P3b R3b loop3b
  iintro ⟨#HC, ⟨Hc, Hat, Ho, Ht⟩, HO⟩
  iapply (seq (waitC_step m d (sm cc0_scratch12 c) (.zr c) (k_zr c) rfl bA bZ hA hZ c O h) _ _) $$ [Hc Hat HO]
  · isplitr; · iexact HC
    isplitl [Hc]; · iexact Hc
    isplitl [Hat] <;> iassumption
  iintro %_ ⟨HO, HY, Hz⟩
  unfold pay
  ihave HY' := (Entails.of_eq (hold_halve m (ch bZ c) d fullShare (A m (zn d) c))) $$ HY
  icases HY' with ⟨HY1, HY2⟩
  iapply (last (out_step m d bZ hZ c (oS3 d c) (ho3 d c) (sm cc0_scratch19 c) fullShare.left (A m (zn d) c)
    (by rw [k_o3]; rfl) (by rw [k_o3]; rfl) rfl) _) $$ [HY1 Ho Ht]
  · isplitr; · iexact HC
    isplitl [HY1]; · iexact HY1
    isplitl [Ho] <;> iassumption
  iintro %_ Hco
  isplitl [HY2]; · iexact HY2
  isplitr [HO]
  · isplitl [Hco] <;> iassumption
  · iexact HO

def P3lo (d : Dev nD) (j : Fin 8) : sProp 𝕄 :=
  iprop(P3a m d (lo j) ∗ P3b m d (lo j) ∗ tk d (sh cc0_scratch13 j) ∗ tk (yn d) (sh cc0_scratch14 j) ∗ junk m (ch bD (lo j)) (yn d))
def R3lo (d : Dev nD) (j : Fin 8) : sProp 𝕄 :=
  iprop(hold m (ch bY (lo j)) d fullShare.right (A m (yn d) (lo j)) ∗ R3a d (lo j) ∗ R3b d (lo j) ∗ cr d (sh cc0_scratch13 j))
def P3hi (d : Dev nD) (j : Fin 8) : sProp 𝕄 :=
  iprop(P3a m d (hi j) ∗ P3b m d (hi j) ∗ tk d (sh cc0_scratch15 j) ∗ tk (zn d) (sh cc0_scratch16 j) ∗ junk m (ch bD (hi j)) (zn d))
def R3hi (d : Dev nD) (j : Fin 8) : sProp 𝕄 :=
  iprop(hold m (ch bZ (hi j)) d fullShare.right (A m (zn d) (hi j)) ∗ R3a d (hi j) ∗ R3b d (hi j) ∗ cr d (sh cc0_scratch15 j))

theorem loop3lo_step (d : Dev nD) (j : Fin 8) (l : List (Fin 8)) :
    iprop(ctx m ∗ P3lo m d j ∗ ow d (sumL (j :: l) (t3 d) + b3 d))
      ⊢ runs d (loop3lo d j) (fun _ => iprop(R3lo m d j ∗ ow d (sumL l (t3 d) + b3 d))) := by
  have above : Above 3 (sumL (j :: l) (t3 d) + b3 d) := above_add (above_sumL _ _ (above_t3 (by decide) d)) (above_b3 (by decide) d)
  unfold P3lo R3lo loop3lo
  rw [yn''_eq]
  iintro ⟨#HC, ⟨Ha, Hb, Hs, Hr, HD⟩, HO⟩
  iapply (seq (loop3a_step m d (lo j) _ above) _ _) $$ [Ha HO]
  · isplitr; · iexact HC
    isplitl [Ha] <;> iassumption
  iintro %_ ⟨HY, HRa, HO⟩
  iapply (seq (loop3b_step m d (lo j) _ above) _ _) $$ [Hb HO]
  · isplitr; · iexact HC
    isplitl [Hb] <;> iassumption
  iintro %_ ⟨HZ, HRb, HO⟩
  iapply (last (send_step m d (yn d) bZ bD hZ hD (lo j) (sh cc0_scratch13 j) (sh cc0_scratch14 j) fullShare.right (A m (zn d) (lo j))
    (by rw [k_y3s]; rfl) (by rw [k_y3r]; unfold pay; rw [yn_yn]) (by rw [k_y3s]; rfl) (by rw [k_y3r]; rfl)
    (O₁ := sumL (j :: l) (t3 d) + b3 d) (sumL l (t3 d) + b3 d)
    (by rw [sumL_cons]; show t3 d j + _ + _ = _ + t3 d j; ac_rfl)) _) $$ [HZ HD HO Hs Hr]
  · isplitr; · iexact HC
    isplitl [HZ]; · iexact HZ
    isplitl [HD]; · iexact HD
    isplitl [HO]; · iexact HO
    isplitl [Hs] <;> iassumption
  iintro %_ ⟨Hc, HO⟩
  isplitr [HO]
  · isplitl [HY]; · iexact HY
    isplitl [HRa]; · iexact HRa
    isplitl [HRb] <;> iassumption
  · iexact HO

theorem loop3hi_step (d : Dev nD) (j : Fin 8) (l : List (Fin 8)) :
    iprop(ctx m ∗ P3hi m d j ∗ ow d (sumL (j :: l) (t4 d)))
      ⊢ runs d (loop3hi d j) (fun _ => iprop(R3hi m d j ∗ ow d (sumL l (t4 d)))) := by
  have above : ∀ l : List (Fin 8), Above 3 (sumL l (t4 d)) := fun l => above_sumL _ _ (above_t4 (by decide) d)
  unfold P3hi R3hi loop3hi
  rw [zn''_eq]
  iintro ⟨#HC, ⟨Ha, Hb, Hs, Hr, HD⟩, HO⟩
  iapply (seq (loop3a_step m d (hi j) _ (above _)) _ _) $$ [Ha HO]
  · isplitr; · iexact HC
    isplitl [Ha] <;> iassumption
  iintro %_ ⟨HY, HRa, HO⟩
  iapply (seq (send_step m d (zn d) bY bD hY hD (hi j) (sh cc0_scratch15 j) (sh cc0_scratch16 j) fullShare.right (A m (yn d) (hi j))
    (by rw [k_z3s]; rfl) (by rw [k_z3r]; show hold m (ch bD (hi j)) (zn d) fullShare (A m (zn (yn (zn d))) (hi j)) = _; rw [yn_zn, zn_zn]) (by rw [k_z3s]; rfl) (by rw [k_z3r]; rfl)
    (O₁ := sumL (j :: l) (t4 d)) (sumL l (t4 d))
    (by rw [sumL_cons]; show t4 d j + _ = _ + t4 d j; ac_rfl)) _ _) $$ [HY HD HO Hs Hr]
  · isplitr; · iexact HC
    isplitl [HY]; · iexact HY
    isplitl [HD]; · iexact HD
    isplitl [HO]; · iexact HO
    isplitl [Hs] <;> iassumption
  iintro %_ ⟨Hc, HO⟩
  iapply (last (loop3b_step m d (hi j) _ (above _)) _) $$ [Hb HO]
  · isplitr; · iexact HC
    isplitl [Hb] <;> iassumption
  iintro %_ ⟨HZ, HRb, HO⟩
  isplitr [HO]
  · isplitl [HZ]; · iexact HZ
    isplitl [HRa]; · iexact HRa
    isplitl [HRb] <;> iassumption
  · iexact HO

/-! ## Loops 4 and 5 -/

def P4 (d : Dev nD) (j : Fin 8) : sProp 𝕄 :=
  iprop(cr d (sh cc0_scratch14 j) ∗ att d (sh cc0_scratch14 j) ∗ junk m (oS4 d (lo j)) d ∗ tk d (sm cc0_scratch20 (lo j)))
def R4 (d : Dev nD) (j : Fin 8) : sProp 𝕄 := iprop(cr d (sm cc0_scratch20 (lo j)) ∗ zer d (sh cc0_scratch14 j))
def P5 (d : Dev nD) (j : Fin 8) : sProp 𝕄 :=
  iprop(cr d (sh cc0_scratch16 j) ∗ att d (sh cc0_scratch16 j) ∗ junk m (oS4 d (hi j)) d ∗ tk d (sm cc0_scratch20 (hi j)))
def R5 (d : Dev nD) (j : Fin 8) : sProp 𝕄 := iprop(cr d (sm cc0_scratch20 (hi j)) ∗ zer d (sh cc0_scratch16 j))

theorem loop4_step (d : Dev nD) (j : Fin 8) :
    iprop(ctx m ∗ P4 m d j ∗ ow d 0) ⊢ runs d (loop4 d j) (fun _ => iprop(R4 d j ∗ ow d 0)) := by
  unfold P4 R4 loop4
  iintro ⟨#HC, ⟨Hc, Hat, Ho, Ht⟩, HO⟩
  iapply (seq (waitC_step m d (sh cc0_scratch14 j) (.y3r j) (k_y3r j) rfl bZ bD hZ hD (lo j) 0 (above_zero _)) _ _) $$ [Hc Hat HO]
  · isplitr; · iexact HC
    isplitl [Hc]; · iexact Hc
    isplitl [Hat] <;> iassumption
  iintro %_ ⟨HO, HD, Hz⟩
  unfold pay
  iapply (last (out_step m d bD hD (lo j) (oS4 d (lo j)) (ho4 d (lo j)) (sm cc0_scratch20 (lo j)) fullShare (A m (zn (yn d)) (lo j))
    (by rw [k_o4]; rfl) (by rw [k_o4]; rfl) rfl) _) $$ [HD Ho Ht]
  · isplitr; · iexact HC
    isplitl [HD]; · iexact HD
    isplitl [Ho] <;> iassumption
  iintro %_ Hco
  isplitr [HO]
  · isplitl [Hco] <;> iassumption
  · iexact HO

theorem loop5_step (d : Dev nD) (j : Fin 8) :
    iprop(ctx m ∗ P5 m d j ∗ ow d 0) ⊢ runs d (loop5 d j) (fun _ => iprop(R5 d j ∗ ow d 0)) := by
  unfold P5 R5 loop5
  iintro ⟨#HC, ⟨Hc, Hat, Ho, Ht⟩, HO⟩
  iapply (seq (waitC_step m d (sh cc0_scratch16 j) (.z3r j) (k_z3r j) rfl bY bD hY hD (hi j) 0 (above_zero _)) _ _) $$ [Hc Hat HO]
  · isplitr; · iexact HC
    isplitl [Hc]; · iexact Hc
    isplitl [Hat] <;> iassumption
  iintro %_ ⟨HO, HD, Hz⟩
  unfold pay
  iapply (last (out_step m d bD hD (hi j) (oS4 d (hi j)) (ho4 d (hi j)) (sm cc0_scratch20 (hi j)) fullShare (A m (zn (yn d)) (hi j))
    (by rw [k_o4]; rfl) (by rw [k_o4]; rfl) rfl) _) $$ [HD Ho Ht]
  · isplitr; · iexact HC
    isplitl [HD]; · iexact HD
    isplitl [Ho] <;> iassumption
  iintro %_ Hco
  isplitr [HO]
  · isplitl [Hco] <;> iassumption
  · iexact HO

/-! ## The last loops: everything back -/

/-- The credits of a cell and the device's position there: what a wait needs. -/
def wt (d : Dev nD) (q : DmaSem sig) : sProp 𝕄 := iprop(cr d q ∗ att d q)
/-- What it leaves. -/
def got (d : Dev nD) (q : DmaSem sig) (k : Knd) : sProp 𝕄 := iprop(pay m d k ∗ zer d q)

theorem back_step (d : Dev nD) (q : DmaSem sig) (k : Knd) (hk : kindOf q = k) (hN : amt k = N)
    (a b : Memref sig .tc .vmem S4096x1024 .bf16) (ha : a.IsWhole) (hb : b.IsWhole) (c : Fin 16) :
    iprop(ctx m ∗ wt d q ∗ ow d 0) ⊢ runs d (waitC q a b ha hb c) (fun _ => iprop(got m d q k ∗ ow d 0)) := by
  unfold wt got
  iintro ⟨#HC, ⟨Hc, Hat⟩, HO⟩
  iapply (last (waitC_step m d q k hk hN a b ha hb c 0 (above_zero _)) _) $$ [Hc Hat HO]
  · isplitr; · iexact HC
    isplitl [Hc]; · iexact Hc
    isplitl [Hat] <;> iassumption
  iintro %_ ⟨HO, Hp, Hz⟩
  isplitr [HO]
  · isplitl [Hp] <;> iassumption
  · iexact HO

theorem outBack_step (d : Dev nD) (q : DmaSem sig) (k : Knd) (hk : kindOf q = k) (hN : amt k = N)
    (b : Memref sig .tc .vmem S4096x1024 .bf16) (hb : b.IsWhole) (c : Fin 16)
    (o : Memref sig .tc .hbm S256x1024 .bf16) (ho : o.view.WordExact) (hoN : o.view.dmaCredit = N) :
    iprop(ctx m ∗ wt d q ∗ ow d 0) ⊢ runs d (outW q b hb c o ho) (fun _ => iprop(got m d q k ∗ ow d 0)) := by
  unfold wt got
  iintro ⟨#HC, ⟨Hc, Hat⟩, HO⟩
  iapply (last (outW_step m d q k hk hN b hb c o ho hoN 0 (above_zero _)) _) $$ [Hc Hat HO]
  · isplitr; · iexact HC
    isplitl [Hc]; · iexact Hc
    isplitl [Hat] <;> iassumption
  iintro %_ ⟨HO, Hp, Hz⟩
  isplitr [HO]
  · isplitl [Hp] <;> iassumption
  · iexact HO

def P6 (d : Dev nD) (c : Fin 16) : sProp 𝕄 :=
  iprop(wt d (sm cc0_scratch7 c) ∗ wt d (sm cc0_scratch9 c) ∗ wt d (sm cc0_scratch11 c))
def R6 (d : Dev nD) (c : Fin 16) : sProp 𝕄 :=
  iprop(got m d (sm cc0_scratch7 c) (.s1s c) ∗ got m d (sm cc0_scratch9 c) (.ys c) ∗ got m d (sm cc0_scratch11 c) (.zs c))

theorem loop6_step (d : Dev nD) (c : Fin 16) :
    iprop(ctx m ∗ P6 d c ∗ ow d 0) ⊢ runs d (loop6 c) (fun _ => iprop(R6 m d c ∗ ow d 0)) := by
  unfold P6 R6 loop6
  iintro ⟨#HC, ⟨H1, H2, H3⟩, HO⟩
  iapply (seq (back_step m d (sm cc0_scratch7 c) (.s1s c) (k_s1s c) rfl bA bQ hA hQ c) _ _) $$ [H1 HO]
  · isplitr; · iexact HC
    isplitl [H1] <;> iassumption
  iintro %_ ⟨H1, HO⟩
  iapply (seq (back_step m d (sm cc0_scratch9 c) (.ys c) (k_ys c) rfl bY bA hY hA c) _ _) $$ [H2 HO]
  · isplitr; · iexact HC
    isplitl [H2] <;> iassumption
  iintro %_ ⟨H2, HO⟩
  iapply (last (back_step m d (sm cc0_scratch11 c) (.zs c) (k_zs c) rfl bZ bA hZ hA c) _) $$ [H3 HO]
  · isplitr; · iexact HC
    isplitl [H3] <;> iassumption
  iintro %_ ⟨H3, HO⟩
  isplitr [HO]
  · isplitl [H1]; · iexact H1
    isplitl [H2] <;> iassumption
  · iexact HO

def P7 (d : Dev nD) (j : Fin 8) : sProp 𝕄 := iprop(wt d (sh cc0_scratch13 j) ∗ wt d (sh cc0_scratch15 j))
def R7 (d : Dev nD) (j : Fin 8) : sProp 𝕄 :=
  iprop(got m d (sh cc0_scratch13 j) (.y3s j) ∗ got m d (sh cc0_scratch15 j) (.z3s j))

theorem loop7_step (d : Dev nD) (j : Fin 8) :
    iprop(ctx m ∗ P7 d j ∗ ow d 0) ⊢ runs d (loop7 j) (fun _ => iprop(R7 m d j ∗ ow d 0)) := by
  unfold P7 R7 loop7
  iintro ⟨#HC, ⟨H1, H2⟩, HO⟩
  iapply (seq (back_step m d (sh cc0_scratch13 j) (.y3s j) (k_y3s j) rfl bD bZ hD hZ (lo j)) _ _) $$ [H1 HO]
  · isplitr; · iexact HC
    isplitl [H1] <;> iassumption
  iintro %_ ⟨H1, HO⟩
  iapply (last (back_step m d (sh cc0_scratch15 j) (.z3s j) (k_z3s j) rfl bD bY hD hY (hi j)) _) $$ [H2 HO]
  · isplitr; · iexact HC
    isplitl [H2] <;> iassumption
  iintro %_ ⟨H2, HO⟩
  isplitr [HO]
  · isplitl [H1] <;> iassumption
  · iexact HO

def P8 (d : Dev nD) (c : Fin 16) : sProp 𝕄 :=
  iprop(wt d (sm cc0_scratch17 c) ∗ wt d (sm cc0_scratch18 c) ∗ wt d (sm cc0_scratch19 c) ∗ wt d (sm cc0_scratch20 c))
def R8 (d : Dev nD) (c : Fin 16) : sProp 𝕄 :=
  iprop(got m d (sm cc0_scratch17 c) (.o1 c) ∗ got m d (sm cc0_scratch18 c) (.o2 c) ∗ got m d (sm cc0_scratch19 c) (.o3 c)
    ∗ got m d (sm cc0_scratch20 c) (.o4 c))

theorem loop8_step (d : Dev nD) (c : Fin 16) :
    iprop(ctx m ∗ P8 d c ∗ ow d 0) ⊢ runs d (loop8 d c) (fun _ => iprop(R8 m d c ∗ ow d 0)) := by
  unfold P8 R8 loop8
  iintro ⟨#HC, ⟨H1, H2, H3, H4⟩, HO⟩
  iapply (seq (outBack_step m d (sm cc0_scratch17 c) (.o1 c) (k_o1 c) rfl bA hA c (oS1 d c) (ho1 d c) rfl) _ _) $$ [H1 HO]
  · isplitr; · iexact HC
    isplitl [H1] <;> iassumption
  iintro %_ ⟨H1, HO⟩
  iapply (seq (outBack_step m d (sm cc0_scratch18 c) (.o2 c) (k_o2 c) rfl bY hY c (oS2 d c) (ho2 d c) rfl) _ _) $$ [H2 HO]
  · isplitr; · iexact HC
    isplitl [H2] <;> iassumption
  iintro %_ ⟨H2, HO⟩
  iapply (seq (outBack_step m d (sm cc0_scratch19 c) (.o3 c) (k_o3 c) rfl bZ hZ c (oS3 d c) (ho3 d c) rfl) _ _) $$ [H3 HO]
  · isplitr; · iexact HC
    isplitl [H3] <;> iassumption
  iintro %_ ⟨H3, HO⟩
  iapply (last (outBack_step m d (sm cc0_scratch20 c) (.o4 c) (k_o4 c) rfl bD hD c (oS4 d c) (ho4 d c) rfl) _) $$ [H4 HO]
  · isplitr; · iexact HC
    isplitl [H4] <;> iassumption
  iintro %_ ⟨H4, HO⟩
  isplitr [HO]
  · isplitl [H1]; · iexact H1
    isplitl [H2]; · iexact H2
    isplitl [H3] <;> iassumption
  · iexact HO

end Cert.KernelIdeal

end
-- ==== Proof.Body.lean ====
module

public import proofs.«01_k».proof.Proof.Loops

/-!
# The kernel's body

The loops one after the other, from what a device starts with to what it ends with, kept as chains over the chunks.
-/

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

section Chains

variable {I : Type}

theorem sep_assoc_eq (P Q R : sProp 𝕄) : iprop((P ∗ Q) ∗ R) = iprop(P ∗ Q ∗ R) := by
  refine both ?_ ?_
  · iintro ⟨⟨H1, H2⟩, H3⟩
    isplitl [H1]; · iexact H1
    isplitl [H2] <;> iassumption
  · iintro ⟨H1, H2, H3⟩
    isplitr [H3]
    · isplitl [H1] <;> iassumption
    · iexact H3

theorem split16 (Φ : Fin 16 → sProp 𝕄) :
    bigSepL all16 Φ = iprop((bigSepL all8 fun j => Φ (lo j)) ∗ bigSepL all8 fun j => Φ (hi j)) := by
  rw [show all16 = all8.map lo ++ all8.map hi from rfl, bigSepL_append, bigSepL_map, bigSepL_map]

theorem zip2 {A B C : I → sProp 𝕄} (h : ∀ i, iprop(A i ∗ B i) ⊢ C i) (l : List I) :
    iprop(bigSepL l A ∗ bigSepL l B) ⊢ bigSepL l C := by
  rw [← bigSepL_sep]; exact bigSepL_mono fun i _ => h i

end Chains

/-- What a device starts with. -/
def Start (d : Dev nD) : sProp 𝕄 :=
  iprop((bigSepL all16 fun c => hold m (xS d c) d fullShare (X m d c))
    ∗ (bigSepL all16 fun c => junk m (oS1 d c) d) ∗ (bigSepL all16 fun c => junk m (oS2 d c) d)
    ∗ (bigSepL all16 fun c => junk m (oS3 d c) d) ∗ (bigSepL all16 fun c => junk m (oS4 d c) d)
    ∗ junk m (stS 0) d ∗ junk m (stS 1) d
    ∗ (bigSepL all16 fun c => junk m (ch bQ c) d) ∗ (bigSepL all16 fun c => junk m (ch bA c) d)
    ∗ (bigSepL all16 fun c => junk m (ch bY c) d) ∗ (bigSepL all16 fun c => junk m (ch bZ c) d)
    ∗ (bigSepL all16 fun c => junk m (ch bD c) d))
/-- The tokens of the duties it pays. -/
def Toks (d : Dev nD) : sProp 𝕄 :=
  iprop((dutyTok ER (bar (xn d)) 0 0 ∗ dutyTok ER (bar (yn d)) 0 1 ∗ dutyTok ER (bar (zn d)) 0 2)
    ∗ (bigSepL all16 fun c => tk d (sm cc0_scratch6 c)) ∗ (bigSepL all16 fun c => tk d (sm cc0_scratch7 c))
    ∗ (bigSepL all16 fun c => tk (xn d) (sm cc0_scratch8 c))
    ∗ (bigSepL all16 fun c => tk d (sm cc0_scratch9 c)) ∗ (bigSepL all16 fun c => tk (yn d) (sm cc0_scratch10 c))
    ∗ (bigSepL all16 fun c => tk d (sm cc0_scratch11 c)) ∗ (bigSepL all16 fun c => tk (zn d) (sm cc0_scratch12 c))
    ∗ (bigSepL all8 fun j => tk d (sh cc0_scratch13 j)) ∗ (bigSepL all8 fun j => tk (yn d) (sh cc0_scratch14 j))
    ∗ (bigSepL all8 fun j => tk d (sh cc0_scratch15 j)) ∗ (bigSepL all8 fun j => tk (zn d) (sh cc0_scratch16 j))
    ∗ (bigSepL all16 fun c => tk d (sm cc0_scratch17 c)) ∗ (bigSepL all16 fun c => tk d (sm cc0_scratch18 c))
    ∗ (bigSepL all16 fun c => tk d (sm cc0_scratch19 c)) ∗ (bigSepL all16 fun c => tk d (sm cc0_scratch20 c)))
/-- Something of each DMA cell. -/
def cells (Φ : DmaSem sig → sProp 𝕄) : sProp 𝕄 :=
  iprop((bigSepL all16 fun c => Φ (sm cc0_scratch6 c)) ∗ (bigSepL all16 fun c => Φ (sm cc0_scratch7 c))
    ∗ (bigSepL all16 fun c => Φ (sm cc0_scratch8 c))
    ∗ (bigSepL all16 fun c => Φ (sm cc0_scratch9 c)) ∗ (bigSepL all16 fun c => Φ (sm cc0_scratch10 c))
    ∗ (bigSepL all16 fun c => Φ (sm cc0_scratch11 c)) ∗ (bigSepL all16 fun c => Φ (sm cc0_scratch12 c))
    ∗ (bigSepL all8 fun j => Φ (sh cc0_scratch13 j)) ∗ (bigSepL all8 fun j => Φ (sh cc0_scratch14 j))
    ∗ (bigSepL all8 fun j => Φ (sh cc0_scratch15 j)) ∗ (bigSepL all8 fun j => Φ (sh cc0_scratch16 j))
    ∗ (bigSepL all16 fun c => Φ (sm cc0_scratch17 c)) ∗ (bigSepL all16 fun c => Φ (sm cc0_scratch18 c))
    ∗ (bigSepL all16 fun c => Φ (sm cc0_scratch19 c)) ∗ (bigSepL all16 fun c => Φ (sm cc0_scratch20 c)))
/-- The credits for what its neighbours pay it. -/
def Creds (d : Dev nD) : sProp 𝕄 :=
  iprop(cred (tallyAt (bar d) () 3)
    ∗ (bigSepL all16 fun c => cr d (sm cc0_scratch8 c)) ∗ (bigSepL all16 fun c => cr d (sm cc0_scratch10 c))
    ∗ (bigSepL all16 fun c => cr d (sm cc0_scratch12 c))
    ∗ (bigSepL all8 fun j => cr d (sh cc0_scratch14 j)) ∗ (bigSepL all8 fun j => cr d (sh cc0_scratch16 j)))
/-- What it ends with: the block as it was, the result, and the scratch buffers. -/
def Ends (d : Dev nD) : sProp 𝕄 :=
  iprop((bigSepL all16 fun c => hold m (xS d c) d fullShare (X m d c))
    ∗ (bigSepL all16 fun c => hold m (oS1 d c) d fullShare (A m d c)) ∗ (bigSepL all16 fun c => hold m (oS2 d c) d fullShare (A m (yn d) c))
    ∗ (bigSepL all16 fun c => hold m (oS3 d c) d fullShare (A m (zn d) c))
    ∗ (bigSepL all16 fun c => hold m (oS4 d c) d fullShare (A m (zn (yn d)) c))
    ∗ junk m (stS 0) d ∗ junk m (stS 1) d
    ∗ (bigSepL all16 fun c => junk m (ch bQ c) d) ∗ (bigSepL all16 fun c => junk m (ch bA c) d)
    ∗ (bigSepL all16 fun c => junk m (ch bY c) d) ∗ (bigSepL all16 fun c => junk m (ch bZ c) d)
    ∗ (bigSepL all16 fun c => junk m (ch bD c) d))

theorem halves {sp : Space} {s : Shape} {e : EltTy} (v : Memref sig .tc sp s e) (d : Dev nD) (V : s.Idx → Elt F e) :
    iprop(hold m v d fullShare.left V ∗ hold m v d fullShare.right V) ⊢ junk m v d := by
  rw [← hold_halve]; unfold junk; iintro H; iexists V; iexact H
theorem thirds {sp : Space} {s : Shape} {e : EltTy} (v : Memref sig .tc sp s e) (d : Dev nD) (V : s.Idx → Elt F e) :
    iprop(hold m v d fullShare.left V ∗ hold m v d fullShare.right.left V ∗ hold m v d fullShare.right.right V) ⊢ junk m v d := by
  rw [← hold_halve, ← hold_halve]; unfold junk; iintro H; iexists V; iexact H
theorem whole_junk {sp : Space} {s : Shape} {e : EltTy} (v : Memref sig .tc sp s e) (d : Dev nD) (V : s.Idx → Elt F e) :
    hold m v d fullShare V ⊢ junk m v d := by
  unfold junk; iintro H; iexists V; iexact H

/-- The first two chunks start in. -/
theorem starts_step (d : Dev nD) (c : Fin 16) :
    iprop(ctx m ∗ PI m d c ∗ junk m (stS c) d) ⊢ runs d (inStart d c) (fun _ => cr d (sm cc0_scratch6 c)) := by
  unfold PI
  iintro ⟨#HC, ⟨Hx, Ht⟩, Hs⟩
  iapply (in_step m d c)
  isplitr; · iexact HC
  isplitl [Hx]; · iexact Hx
  isplitl [Hs] <;> iassumption

theorem loop1_all (d : Dev nD) :
    iprop(ctx m ∗ bigSepL all16 (P1 m d) ∗ cr d (sm cc0_scratch6 0) ∗ cr d (sm cc0_scratch6 1)
        ∗ bigSepL [2, 3, 4, 5, 6, 7, 8, 9, 10, 11, 12, 13, 14, 15] (PI m d) ∗ ow d (b0 d))
      ⊢ runs d (loop1 d all16) (fun _ => iprop(bigSepL all16 (R1 m d) ∗ junk m (stS 0) d ∗ junk m (stS 1) d ∗ ow d (b1 d))) := by
  have h := loop1_step m d [2, 3, 4, 5, 6, 7, 8, 9, 10, 11, 12, 13, 14, 15] 0 1 alt16
  rw [sumL_nil, zero_add] at h
  exact h
theorem loop2_all (d : Dev nD) :
    iprop(ctx m ∗ bigSepL all16 (P2 m d) ∗ ow d (b1 d))
      ⊢ runs d (each all16 (loop2 d)) (fun _ => iprop(bigSepL all16 (R2 m d) ∗ ow d (b2 d))) := by
  have h := each_wp m d (loop2 d) (P2 m d) (R2 m d) (fun l => ow d (sumL l (t2 d) + b2 d)) (loop2_step m d) all16
  rw [sumL_nil, zero_add] at h
  exact h
theorem loop3lo_all (d : Dev nD) :
    iprop(ctx m ∗ bigSepL all8 (P3lo m d) ∗ ow d (b2 d))
      ⊢ runs d (each all8 (loop3lo d)) (fun _ => iprop(bigSepL all8 (R3lo m d) ∗ ow d (b3 d))) := by
  have h := each_wp m d (loop3lo d) (P3lo m d) (R3lo m d) (fun l => ow d (sumL l (t3 d) + b3 d)) (loop3lo_step m d) all8
  rw [sumL_nil, zero_add] at h
  exact h
theorem loop3hi_all (d : Dev nD) :
    iprop(ctx m ∗ bigSepL all8 (P3hi m d) ∗ ow d (b3 d))
      ⊢ runs d (each all8 (loop3hi d)) (fun _ => iprop(bigSepL all8 (R3hi m d) ∗ ow d 0)) :=
  each_wp m d (loop3hi d) (P3hi m d) (R3hi m d) (fun l => ow d (sumL l (t4 d))) (loop3hi_step m d) all8
theorem loop4_all (d : Dev nD) :
    iprop(ctx m ∗ bigSepL all8 (P4 m d) ∗ ow d 0) ⊢ runs d (each all8 (loop4 d)) (fun _ => iprop(bigSepL all8 (R4 d) ∗ ow d 0)) :=
  each_wp m d (loop4 d) (P4 m d) (R4 d) (fun _ => ow d 0) (fun j _ => loop4_step m d j) all8
theorem loop5_all (d : Dev nD) :
    iprop(ctx m ∗ bigSepL all8 (P5 m d) ∗ ow d 0) ⊢ runs d (each all8 (loop5 d)) (fun _ => iprop(bigSepL all8 (R5 d) ∗ ow d 0)) :=
  each_wp m d (loop5 d) (P5 m d) (R5 d) (fun _ => ow d 0) (fun j _ => loop5_step m d j) all8
theorem loop6_all (d : Dev nD) :
    iprop(ctx m ∗ bigSepL all16 (P6 d) ∗ ow d 0) ⊢ runs d (each all16 loop6) (fun _ => iprop(bigSepL all16 (R6 m d) ∗ ow d 0)) :=
  each_wp m d loop6 (P6 d) (R6 m d) (fun _ => ow d 0) (fun j _ => loop6_step m d j) all16
theorem loop7_all (d : Dev nD) :
    iprop(ctx m ∗ bigSepL all8 (P7 d) ∗ ow d 0) ⊢ runs d (each all8 loop7) (fun _ => iprop(bigSepL all8 (R7 m d) ∗ ow d 0)) :=
  each_wp m d loop7 (P7 d) (R7 m d) (fun _ => ow d 0) (fun j _ => loop7_step m d j) all8
theorem loop8_all (d : Dev nD) :
    iprop(ctx m ∗ bigSepL all16 (P8 d) ∗ ow d 0) ⊢ runs d (each all16 (loop8 d)) (fun _ => iprop(bigSepL all16 (R8 m d) ∗ ow d 0)) :=
  each_wp m d (loop8 d) (P8 d) (R8 m d) (fun _ => ow d 0) (fun j _ => loop8_step m d j) all16

/-! ## The chains of the loops, flat -/

theorem P1_all (d : Dev nD) : bigSepL all16 (P1 m d) = iprop((bigSepL all16 fun c => att d (sm cc0_scratch6 c))
    ∗ (bigSepL all16 fun c => junk m (ch bQ c) d) ∗ (bigSepL all16 fun c => tk d (sm cc0_scratch7 c))
    ∗ (bigSepL all16 fun c => tk (xn d) (sm cc0_scratch8 c)) ∗ (bigSepL all16 fun c => junk m (ch bA c) (xn d))) := by
  delta P1; simp only [bigSepL_sep]
theorem PI_all (d : Dev nD) : bigSepL all16 (PI m d) = iprop((bigSepL all16 fun c => hold m (xS d c) d fullShare (X m d c))
    ∗ (bigSepL all16 fun c => tk d (sm cc0_scratch6 c))) := by
  delta PI; simp only [bigSepL_sep]
theorem R1_all (d : Dev nD) : (bigSepL all16 (R1 m d) : sProp 𝕄) = iprop((bigSepL all16 fun c => hold m (xS d c) d fullShare (X m d c))
    ∗ (bigSepL all16 fun c => hold m (ch bQ c) d fullShare.right (Q m d c))
    ∗ (bigSepL all16 fun c => cr d (sm cc0_scratch7 c))
    ∗ (bigSepL all16 fun c => zer d (sm cc0_scratch6 c))) := by
  delta R1 ; simp only [bigSepL_sep, sep_assoc_eq]
theorem P2_all (d : Dev nD) : (bigSepL all16 (P2 m d) : sProp 𝕄) = iprop((bigSepL all16 fun c => cr d (sm cc0_scratch8 c))
    ∗ (bigSepL all16 fun c => att d (sm cc0_scratch8 c))
    ∗ (bigSepL all16 fun c => hold m (ch bQ c) d fullShare.right (Q m d c))
    ∗ (bigSepL all16 fun c => tk d (sm cc0_scratch9 c))
    ∗ (bigSepL all16 fun c => tk (yn d) (sm cc0_scratch10 c))
    ∗ (bigSepL all16 fun c => junk m (ch bY c) (yn d))
    ∗ (bigSepL all16 fun c => tk d (sm cc0_scratch11 c))
    ∗ (bigSepL all16 fun c => tk (zn d) (sm cc0_scratch12 c))
    ∗ (bigSepL all16 fun c => junk m (ch bZ c) (zn d))
    ∗ (bigSepL all16 fun c => tk d (sm cc0_scratch17 c))
    ∗ (bigSepL all16 fun c => junk m (oS1 d c) d)) := by
  delta P2 ; simp only [bigSepL_sep, sep_assoc_eq]
theorem R2_all (d : Dev nD) : (bigSepL all16 (R2 m d) : sProp 𝕄) = iprop((bigSepL all16 fun c => hold m (ch bQ c) d fullShare.right (Q m d c))
    ∗ (bigSepL all16 fun c => cr d (sm cc0_scratch9 c))
    ∗ (bigSepL all16 fun c => cr d (sm cc0_scratch11 c))
    ∗ (bigSepL all16 fun c => cr d (sm cc0_scratch17 c))
    ∗ (bigSepL all16 fun c => zer d (sm cc0_scratch8 c))) := by
  delta R2 ; simp only [bigSepL_sep, sep_assoc_eq]
theorem P3lo_all (d : Dev nD) : (bigSepL all8 (P3lo m d) : sProp 𝕄) = iprop((bigSepL all8 fun j => cr d (sm cc0_scratch10 (lo j)))
    ∗ (bigSepL all8 fun j => att d (sm cc0_scratch10 (lo j)))
    ∗ (bigSepL all8 fun j => junk m (oS2 d (lo j)) d)
    ∗ (bigSepL all8 fun j => tk d (sm cc0_scratch18 (lo j)))
    ∗ (bigSepL all8 fun j => cr d (sm cc0_scratch12 (lo j)))
    ∗ (bigSepL all8 fun j => att d (sm cc0_scratch12 (lo j)))
    ∗ (bigSepL all8 fun j => junk m (oS3 d (lo j)) d)
    ∗ (bigSepL all8 fun j => tk d (sm cc0_scratch19 (lo j)))
    ∗ (bigSepL all8 fun j => tk d (sh cc0_scratch13 j))
    ∗ (bigSepL all8 fun j => tk (yn d) (sh cc0_scratch14 j))
    ∗ (bigSepL all8 fun j => junk m (ch bD (lo j)) (yn d))) := by
  delta P3lo P3a P3b; simp only [bigSepL_sep, sep_assoc_eq]
theorem P3hi_all (d : Dev nD) : (bigSepL all8 (P3hi m d) : sProp 𝕄) = iprop((bigSepL all8 fun j => cr d (sm cc0_scratch10 (hi j)))
    ∗ (bigSepL all8 fun j => att d (sm cc0_scratch10 (hi j)))
    ∗ (bigSepL all8 fun j => junk m (oS2 d (hi j)) d)
    ∗ (bigSepL all8 fun j => tk d (sm cc0_scratch18 (hi j)))
    ∗ (bigSepL all8 fun j => cr d (sm cc0_scratch12 (hi j)))
    ∗ (bigSepL all8 fun j => att d (sm cc0_scratch12 (hi j)))
    ∗ (bigSepL all8 fun j => junk m (oS3 d (hi j)) d)
    ∗ (bigSepL all8 fun j => tk d (sm cc0_scratch19 (hi j)))
    ∗ (bigSepL all8 fun j => tk d (sh cc0_scratch15 j))
    ∗ (bigSepL all8 fun j => tk (zn d) (sh cc0_scratch16 j))
    ∗ (bigSepL all8 fun j => junk m (ch bD (hi j)) (zn d))) := by
  delta P3hi P3a P3b; simp only [bigSepL_sep, sep_assoc_eq]
theorem R3lo_all (d : Dev nD) : (bigSepL all8 (R3lo m d) : sProp 𝕄) = iprop((bigSepL all8 fun j => hold m (ch bY (lo j)) d fullShare.right (A m (yn d) (lo j)))
    ∗ (bigSepL all8 fun j => cr d (sm cc0_scratch18 (lo j)))
    ∗ (bigSepL all8 fun j => zer d (sm cc0_scratch10 (lo j)))
    ∗ (bigSepL all8 fun j => cr d (sm cc0_scratch19 (lo j)))
    ∗ (bigSepL all8 fun j => zer d (sm cc0_scratch12 (lo j)))
    ∗ (bigSepL all8 fun j => cr d (sh cc0_scratch13 j))) := by
  delta R3lo R3a R3b; simp only [bigSepL_sep, sep_assoc_eq]
theorem R3hi_all (d : Dev nD) : (bigSepL all8 (R3hi m d) : sProp 𝕄) = iprop((bigSepL all8 fun j => hold m (ch bZ (hi j)) d fullShare.right (A m (zn d) (hi j)))
    ∗ (bigSepL all8 fun j => cr d (sm cc0_scratch18 (hi j)))
    ∗ (bigSepL all8 fun j => zer d (sm cc0_scratch10 (hi j)))
    ∗ (bigSepL all8 fun j => cr d (sm cc0_scratch19 (hi j)))
    ∗ (bigSepL all8 fun j => zer d (sm cc0_scratch12 (hi j)))
    ∗ (bigSepL all8 fun j => cr d (sh cc0_scratch15 j))) := by
  delta R3hi R3a R3b; simp only [bigSepL_sep, sep_assoc_eq]
theorem P4_all (d : Dev nD) : (bigSepL all8 (P4 m d) : sProp 𝕄) = iprop((bigSepL all8 fun j => cr d (sh cc0_scratch14 j))
    ∗ (bigSepL all8 fun j => att d (sh cc0_scratch14 j))
    ∗ (bigSepL all8 fun j => junk m (oS4 d (lo j)) d)
    ∗ (bigSepL all8 fun j => tk d (sm cc0_scratch20 (lo j)))) := by
  delta P4 ; simp only [bigSepL_sep, sep_assoc_eq]
theorem P5_all (d : Dev nD) : (bigSepL all8 (P5 m d) : sProp 𝕄) = iprop((bigSepL all8 fun j => cr d (sh cc0_scratch16 j))
    ∗ (bigSepL all8 fun j => att d (sh cc0_scratch16 j))
    ∗ (bigSepL all8 fun j => junk m (oS4 d (hi j)) d)
    ∗ (bigSepL all8 fun j => tk d (sm cc0_scratch20 (hi j)))) := by
  delta P5 ; simp only [bigSepL_sep, sep_assoc_eq]
theorem R4_all (d : Dev nD) : (bigSepL all8 (R4 (F := F) d) : sProp 𝕄) = iprop((bigSepL all8 fun j => cr d (sm cc0_scratch20 (lo j)))
    ∗ (bigSepL all8 fun j => zer d (sh cc0_scratch14 j))) := by
  delta R4 ; simp only [bigSepL_sep, sep_assoc_eq]
theorem R5_all (d : Dev nD) : (bigSepL all8 (R5 (F := F) d) : sProp 𝕄) = iprop((bigSepL all8 fun j => cr d (sm cc0_scratch20 (hi j)))
    ∗ (bigSepL all8 fun j => zer d (sh cc0_scratch16 j))) := by
  delta R5 ; simp only [bigSepL_sep, sep_assoc_eq]
theorem P6_all (d : Dev nD) : (bigSepL all16 (P6 (F := F) d) : sProp 𝕄) = iprop((bigSepL all16 fun c => cr d (sm cc0_scratch7 c))
    ∗ (bigSepL all16 fun c => att d (sm cc0_scratch7 c))
    ∗ (bigSepL all16 fun c => cr d (sm cc0_scratch9 c))
    ∗ (bigSepL all16 fun c => att d (sm cc0_scratch9 c))
    ∗ (bigSepL all16 fun c => cr d (sm cc0_scratch11 c))
    ∗ (bigSepL all16 fun c => att d (sm cc0_scratch11 c))) := by
  delta P6 wt; simp only [bigSepL_sep, sep_assoc_eq]
theorem R6_all (d : Dev nD) : (bigSepL all16 (R6 m d) : sProp 𝕄) = iprop((bigSepL all16 fun c => hold m (ch bQ c) d fullShare.left (Q m d c))
    ∗ (bigSepL all16 fun c => zer d (sm cc0_scratch7 c))
    ∗ (bigSepL all16 fun c => hold m (ch bA c) d fullShare.left (A m d c))
    ∗ (bigSepL all16 fun c => zer d (sm cc0_scratch9 c))
    ∗ (bigSepL all16 fun c => hold m (ch bA c) d fullShare.right.left (A m d c))
    ∗ (bigSepL all16 fun c => zer d (sm cc0_scratch11 c))) := by
  delta R6 ; simp only [got, pay, bigSepL_sep, sep_assoc_eq]
theorem P7_all (d : Dev nD) : (bigSepL all8 (P7 (F := F) d) : sProp 𝕄) = iprop((bigSepL all8 fun j => cr d (sh cc0_scratch13 j))
    ∗ (bigSepL all8 fun j => att d (sh cc0_scratch13 j))
    ∗ (bigSepL all8 fun j => cr d (sh cc0_scratch15 j))
    ∗ (bigSepL all8 fun j => att d (sh cc0_scratch15 j))) := by
  delta P7 wt; simp only [bigSepL_sep, sep_assoc_eq]
theorem R7_all (d : Dev nD) : (bigSepL all8 (R7 m d) : sProp 𝕄) = iprop((bigSepL all8 fun j => hold m (ch bZ (lo j)) d fullShare.right (A m (zn d) (lo j)))
    ∗ (bigSepL all8 fun j => zer d (sh cc0_scratch13 j))
    ∗ (bigSepL all8 fun j => hold m (ch bY (hi j)) d fullShare.right (A m (yn d) (hi j)))
    ∗ (bigSepL all8 fun j => zer d (sh cc0_scratch15 j))) := by
  delta R7 ; simp only [got, pay, bigSepL_sep, sep_assoc_eq]
theorem P8_all (d : Dev nD) : (bigSepL all16 (P8 (F := F) d) : sProp 𝕄) = iprop((bigSepL all16 fun c => cr d (sm cc0_scratch17 c))
    ∗ (bigSepL all16 fun c => att d (sm cc0_scratch17 c))
    ∗ (bigSepL all16 fun c => cr d (sm cc0_scratch18 c))
    ∗ (bigSepL all16 fun c => att d (sm cc0_scratch18 c))
    ∗ (bigSepL all16 fun c => cr d (sm cc0_scratch19 c))
    ∗ (bigSepL all16 fun c => att d (sm cc0_scratch19 c))
    ∗ (bigSepL all16 fun c => cr d (sm cc0_scratch20 c))
    ∗ (bigSepL all16 fun c => att d (sm cc0_scratch20 c))) := by
  delta P8 wt; simp only [bigSepL_sep, sep_assoc_eq]
theorem R8_all (d : Dev nD) : (bigSepL all16 (R8 m d) : sProp 𝕄) = iprop((bigSepL all16 fun c => hold m (oS1 d c) d fullShare (A m d c))
    ∗ (bigSepL all16 fun c => hold m (ch bA c) d fullShare.right.right (A m d c))
    ∗ (bigSepL all16 fun c => zer d (sm cc0_scratch17 c))
    ∗ (bigSepL all16 fun c => hold m (oS2 d c) d fullShare (A m (yn d) c))
    ∗ (bigSepL all16 fun c => hold m (ch bY c) d fullShare.left (A m (yn d) c))
    ∗ (bigSepL all16 fun c => zer d (sm cc0_scratch18 c))
    ∗ (bigSepL all16 fun c => hold m (oS3 d c) d fullShare (A m (zn d) c))
    ∗ (bigSepL all16 fun c => hold m (ch bZ c) d fullShare.left (A m (zn d) c))
    ∗ (bigSepL all16 fun c => zer d (sm cc0_scratch19 c))
    ∗ (bigSepL all16 fun c => hold m (oS4 d c) d fullShare (A m (zn (yn d)) c))
    ∗ (bigSepL all16 fun c => hold m (ch bD c) d fullShare (A m (zn (yn d)) c))
    ∗ (bigSepL all16 fun c => zer d (sm cc0_scratch20 c))) := by
  delta R8 ; simp only [got, pay, bigSepL_sep, sep_assoc_eq]

/-! ## The body -/

theorem kernelAt_step (d : Dev nD) :
    iprop(ctx m ∗ Start m d ∗ Toks d ∗ cells (att d) ∗ atPos ER (bar d) 0 ∅ 0 ∗ Creds d ∗ ow d (O₀ d))
      ⊢ runs d (kernelAt d) (fun _ => iprop(Ends m d ∗ cells (zer d) ∗ semVal (bar d) 0 ∗ ow d 0)) := by
  unfold Start Toks cells Creds kernelAt
  iintro ⟨#HC, ⟨Hx, O1, O2, O3, O4, S0, S1, BQ, BA, BY, BZ, BD⟩,
    ⟨⟨Tx, Ty, Tz⟩, T6, T7, T8, T9, T10, T11, T12, T13, T14, T15, T16, T17, T18, T19, T20⟩,
    ⟨A6, A7, A8, A9, A10, A11, A12, A13, A14, A15, A16, A17, A18, A19, A20⟩, AB,
    ⟨CB, C8, C10, C12, C14, C16⟩, HO⟩
  ihave BD' := (Entails.of_eq (split16 fun c => junk m (ch bD c) d)) $$ BD
  icases BD' with ⟨BDl, BDh⟩
  iapply (seq (barrier_step m d) _ _) $$ [Tx Ty Tz CB AB BA BY BDl BZ BDh HO]
  · unfold Pb; iframe; iexact HC
  iintro %_ ⟨HB, HO⟩
  unfold Rb
  icases HB with ⟨BA, ⟨BY, BDl⟩, ⟨BZ, BDh⟩, ZB⟩
  ihave HI := (Entails.of_eq (PI_all m d).symm) $$ [Hx T6]
  · iframe
  rw [show (all16 : List (Fin 16)) = 0 :: 1 :: [2, 3, 4, 5, 6, 7, 8, 9, 10, 11, 12, 13, 14, 15] from rfl]
  ihave HI' := (Entails.of_eq (bigSepL_cons' _ _ _)) $$ HI
  icases HI' with ⟨I0, HI⟩
  ihave HI' := (Entails.of_eq (bigSepL_cons' _ _ _)) $$ HI
  icases HI' with ⟨I1, HI⟩
  iapply (seq (starts_step m d 0) _ _) $$ [I0 S0]
  · iframe; iexact HC
  iintro %_ C0
  iapply (seq (starts_step m d 1) _ _) $$ [I1 S1]
  · iframe; iexact HC
  iintro %_ C1
  iapply (seq (loop1_all m d) _ _) $$ [A6 BQ T7 T8 BA C0 C1 HI HO]
  · rw [P1_all]; iframe; iexact HC
  iintro %_ ⟨HR, S0, S1, HO⟩
  ihave HR' := (Entails.of_eq (R1_all m d)) $$ HR
  icases HR' with ⟨Hx, BQ, C7, Z6⟩
  iapply (seq (loop2_all m d) _ _) $$ [C8 A8 BQ T9 T10 BY T11 T12 BZ T17 O1 HO]
  · rw [P2_all]; iframe; iexact HC
  iintro %_ ⟨HR, HO⟩
  ihave HR' := (Entails.of_eq (R2_all m d)) $$ HR
  icases HR' with ⟨BQ, C9, C11, C17, Z8⟩
  ihave H := (Entails.of_eq (split16 fun c => cr d (sm cc0_scratch10 c))) $$ C10
  icases H with ⟨C10l, C10h⟩
  ihave H := (Entails.of_eq (split16 fun c => att d (sm cc0_scratch10 c))) $$ A10
  icases H with ⟨A10l, A10h⟩
  ihave H := (Entails.of_eq (split16 fun c => junk m (oS2 d c) d)) $$ O2
  icases H with ⟨O2l, O2h⟩
  ihave H := (Entails.of_eq (split16 fun c => tk d (sm cc0_scratch18 c))) $$ T18
  icases H with ⟨T18l, T18h⟩
  ihave H := (Entails.of_eq (split16 fun c => cr d (sm cc0_scratch12 c))) $$ C12
  icases H with ⟨C12l, C12h⟩
  ihave H := (Entails.of_eq (split16 fun c => att d (sm cc0_scratch12 c))) $$ A12
  icases H with ⟨A12l, A12h⟩
  ihave H := (Entails.of_eq (split16 fun c => junk m (oS3 d c) d)) $$ O3
  icases H with ⟨O3l, O3h⟩
  ihave H := (Entails.of_eq (split16 fun c => tk d (sm cc0_scratch19 c))) $$ T19
  icases H with ⟨T19l, T19h⟩
  ihave H := (Entails.of_eq (split16 fun c => junk m (oS4 d c) d)) $$ O4
  icases H with ⟨O4l, O4h⟩
  ihave H := (Entails.of_eq (split16 fun c => tk d (sm cc0_scratch20 c))) $$ T20
  icases H with ⟨T20l, T20h⟩
  iapply (seq (loop3lo_all m d) _ _) $$ [C10l A10l O2l T18l C12l A12l O3l T19l T13 T14 BDl HO]
  · rw [P3lo_all]; iframe; iexact HC
  iintro %_ ⟨HR, HO⟩
  ihave HR' := (Entails.of_eq (R3lo_all m d)) $$ HR
  icases HR' with ⟨BYl, C18l, Z10l, C19l, Z12l, C13⟩
  iapply (seq (loop3hi_all m d) _ _) $$ [C10h A10h O2h T18h C12h A12h O3h T19h T15 T16 BDh HO]
  · rw [P3hi_all]; iframe; iexact HC
  iintro %_ ⟨HR, HO⟩
  ihave HR' := (Entails.of_eq (R3hi_all m d)) $$ HR
  icases HR' with ⟨BZh, C18h, Z10h, C19h, Z12h, C15⟩
  iapply (seq (loop4_all m d) _ _) $$ [C14 A14 O4l T20l HO]
  · rw [P4_all]; iframe; iexact HC
  iintro %_ ⟨HR, HO⟩
  ihave HR' := (Entails.of_eq (R4_all d)) $$ HR
  icases HR' with ⟨C20l, Z14⟩
  iapply (seq (loop5_all m d) _ _) $$ [C16 A16 O4h T20h HO]
  · rw [P5_all]; iframe; iexact HC
  iintro %_ ⟨HR, HO⟩
  ihave HR' := (Entails.of_eq (R5_all d)) $$ HR
  icases HR' with ⟨C20h, Z16⟩
  iapply (seq (loop6_all m d) _ _) $$ [C7 A7 C9 A9 C11 A11 HO]
  · rw [P6_all]; iframe; iexact HC
  iintro %_ ⟨HR, HO⟩
  ihave HR' := (Entails.of_eq (R6_all m d)) $$ HR
  icases HR' with ⟨BQ', Z7, BA1, Z9, BA2, Z11⟩
  iapply (seq (loop7_all m d) _ _) $$ [C13 A13 C15 A15 HO]
  · rw [P7_all]; iframe; iexact HC
  iintro %_ ⟨HR, HO⟩
  ihave HR' := (Entails.of_eq (R7_all m d)) $$ HR
  icases HR' with ⟨BZl, Z13, BYh, Z15⟩
  ihave C18 := (Entails.of_eq (split16 fun c => cr d (sm cc0_scratch18 c)).symm) $$ [C18l C18h]
  · iframe
  ihave C19 := (Entails.of_eq (split16 fun c => cr d (sm cc0_scratch19 c)).symm) $$ [C19l C19h]
  · iframe
  ihave C20 := (Entails.of_eq (split16 fun c => cr d (sm cc0_scratch20 c)).symm) $$ [C20l C20h]
  · iframe
  iapply (last (loop8_all m d) _) $$ [C17 A17 C18 A18 C19 A19 C20 A20 HO]
  · rw [P8_all]; iframe; iexact HC
  iintro %_ ⟨HR, HO⟩
  ihave HR' := (Entails.of_eq (R8_all m d)) $$ HR
  icases HR' with ⟨O1, BA3, Z17, O2, BY', Z18, O3, BZ', Z19, O4, BD, Z20⟩
  ihave Z10 := (Entails.of_eq (split16 fun c => zer d (sm cc0_scratch10 c)).symm) $$ [Z10l Z10h]
  · iframe
  ihave Z12 := (Entails.of_eq (split16 fun c => zer d (sm cc0_scratch12 c)).symm) $$ [Z12l Z12h]
  · iframe
  ihave BQ := (zip2 (fun c => halves m (ch bQ c) d (Q m d c)) all16) $$ [BQ' BQ]
  · iframe
  ihave BA4 := (Entails.of_eq (bigSepL_sep all16 _ _).symm) $$ [BA2 BA3]
  · iframe
  ihave BA := (zip2 (fun c => thirds m (ch bA c) d (A m d c)) all16) $$ [BA1 BA4]
  · iframe
  ihave H := (Entails.of_eq (split16 fun c => hold m (ch bY c) d fullShare.left (A m (yn d) c))) $$ BY'
  icases H with ⟨BYl', BYh'⟩
  ihave BYl := (zip2 (fun j => halves m (ch bY (lo j)) d (A m (yn d) (lo j))) all8) $$ [BYl' BYl]
  · iframe
  ihave BYh := (zip2 (fun j => halves m (ch bY (hi j)) d (A m (yn d) (hi j))) all8) $$ [BYh' BYh]
  · iframe
  ihave BY := (Entails.of_eq (split16 fun c => junk m (ch bY c) d).symm) $$ [BYl BYh]
  · iframe
  ihave H := (Entails.of_eq (split16 fun c => hold m (ch bZ c) d fullShare.left (A m (zn d) c))) $$ BZ'
  icases H with ⟨BZl', BZh'⟩
  ihave BZl := (zip2 (fun j => halves m (ch bZ (lo j)) d (A m (zn d) (lo j))) all8) $$ [BZl' BZl]
  · iframe
  ihave BZh := (zip2 (fun j => halves m (ch bZ (hi j)) d (A m (zn d) (hi j))) all8) $$ [BZh' BZh]
  · iframe
  ihave BZ := (Entails.of_eq (split16 fun c => junk m (ch bZ c) d).symm) $$ [BZl BZh]
  · iframe
  ihave BD := (bigSepL_mono fun c _ => whole_junk m (ch bD c) d (A m (zn (yn d)) c)) $$ BD
  unfold Ends
  iframe

end Cert.KernelIdeal

end
-- ==== Proof.Parts.lean ====
module

public import proofs.«01_k».proof.Proof.Body

/-!
# The buffers cut into chunks

A quarter-sized buffer is its sixteen chunks, the staging buffer its two slots, and a block-sized array four quarters of
sixteen chunks each.  `OUT` is what a device's result holds at the end.
-/

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

open Idealize.ShloMosaic.Ring (pointsTo_blocks pointsTo_blocks_join_exists)

section Rects

variable {B : Type} [Fintype B] [DecidableEq B] {sp : Space} {s : Shape} {e : EltTy}
  (b : Memref sig .tc sp s e) (hb : b.view.set = Finset.univ) (d : Dev nD) (r : B → Rect s) (hs : ∀ i a, (r i).stride a = 1)
  (hd : ∀ i j, i ≠ j → Disjoint (r i).set (r j).set) (hc : ∀ x : s.Idx, ∃ i, x ∈ (r i).set)

/-- The elements of the `i`-th rectangle. -/
abbrev rI (i : B) : Finset b.view.ty.Idx := (b.slice (r i) (hs i)).view.set

include hd in
theorem rects_disjoint (i j : B) (h : i ≠ j) :
    Disjoint (rI b r hs i) (rI b r hs j) := by
  show Disjoint (α := Finset b.view.ty.Idx) ((b.view.slice (r i)).set) ((b.view.slice (r j)).set)
  rw [View.set_slice, View.set_slice]
  exact (Finset.disjoint_map _).mpr (hd i j h)

include hb hc in
theorem rects_cover : Finset.univ.biUnion (rI b r hs) = Finset.univ := by
  refine Finset.eq_univ_iff_forall.mpr fun y => ?_
  have hy : y ∈ b.view.set := by rw [hb]; exact Finset.mem_univ y
  obtain ⟨x, -, rfl⟩ := Finset.mem_map.mp hy
  obtain ⟨i, hi⟩ := hc x
  refine Finset.mem_biUnion.mpr ⟨i, Finset.mem_univ i, ?_⟩
  show b.view.emb x ∈ (b.view.slice (r i)).set
  rw [View.set_slice]
  exact Finset.mem_map_of_mem _ hi

include hb hd hc in
/-- A buffer held whole is its rectangles held; -/
theorem rect_split (f : Buf (Elt F) (b.view.loc (d : Thread nD τ))) :
    (b.view.loc (d : Thread nD τ) ↦{fullShare} f : sProp 𝕄)
      = bigSep Finset.univ fun i => hold m (b.slice (r i) (hs i)) d fullShare ((b.slice (r i) (hs i)).view.read (Elt F) f) := by
  rw [pointsTo_blocks (ℓ := b.view.loc (d : Thread nD τ)) (rI b r hs)
    (rects_disjoint b r hs hd) (rects_cover b hb r hs hc) f]
  exact bigSep_congr fun i _ => hold_of m (b.slice (r i) (hs i)) d fullShare f

include hb hd hc in
/-- and they join to it, whatever they hold. -/
theorem rect_join :
    bigSep Finset.univ (fun i => junk m (b.slice (r i) (hs i)) d) ⊢ (iprop(∃ g, b.view.loc (d : Thread nD τ) ↦{fullShare} g) : sProp 𝕄) := by
  refine BIBase.Entails.trans (bigSep_mono fun i _ => ?_)
    (pointsTo_blocks_join_exists (ℓ := b.view.loc (d : Thread nD τ)) (rI b r hs)
      (rects_disjoint b r hs hd) (rects_cover b hb r hs hc) (m _))
  have h : junk m (b.slice (r i) (hs i)) d ⊢ (iprop(∃ f, b.view.loc (d : Thread nD τ) ↦[rI b r hs i]{fullShare} f) : sProp 𝕄) := by
    unfold junk hold
    iintro ⟨%X, H⟩
    iexists _
    iexact H
  exact h

end Rects

/-! ## The quarter-sized buffers -/

theorem ch_disjoint (i j : Fin 16) (h : i ≠ j) : Disjoint (chR i).set (chR j).set :=
  Rect.unit_disjoint 0 (by
    show 256 * i.val + 256 ≤ 256 * j.val ∨ 256 * j.val + 256 ≤ 256 * i.val
    have : i.val ≠ j.val := fun h' => h (Fin.ext h')
    omega)
theorem ch_cover (x : S4096x1024.Idx) : ∃ i, x ∈ (chR i).set := by
  have h0 : (x 0).val < 4096 := (x 0).isLt
  have h1 : (x 1).val < 1024 := (x 1).isLt
  refine ⟨⟨(x 0).val / 256, by omega⟩, Rect.mem_set_unit.mpr fun a => ?_⟩
  fin_cases a
  · show 256 * ((x 0).val / 256) ≤ (x 0).val ∧ (x 0).val < 256 * ((x 0).val / 256) + 256
    omega
  · show 0 ≤ (x 1).val ∧ (x 1).val < 0 + 1024
    omega

theorem chain16 (Φ : Fin 16 → sProp 𝕄) : bigSep Finset.univ Φ = bigSepL all16 Φ :=
  bigSep_univ_eq_bigSepL all16 (by decide) (by decide) Φ

theorem buf_split (b : Memref sig .tc .vmem S4096x1024 .bf16) (hb : b.view.set = Finset.univ) (d : Dev nD)
    (f : Buf (Elt F) (b.view.loc (d : Thread nD τ))) :
    (b.view.loc (d : Thread nD τ) ↦{fullShare} f : sProp 𝕄) ⊢ bigSepL all16 fun c => junk m (ch b c) d := by
  rw [rect_split m b hb d chR (fun _ _ => rfl) ch_disjoint ch_cover f, chain16]
  exact bigSepL_mono fun c _ => by unfold junk; iintro H; iexists _; iexact H
theorem buf_join (b : Memref sig .tc .vmem S4096x1024 .bf16) (hb : b.view.set = Finset.univ) (d : Dev nD) :
    (bigSepL all16 fun c => junk m (ch b c) d) ⊢ (iprop(∃ g, b.view.loc (d : Thread nD τ) ↦{fullShare} g) : sProp 𝕄) := by
  rw [← chain16]
  exact rect_join m b hb d chR (fun _ _ => rfl) ch_disjoint ch_cover

/-! ## The staging buffer -/

/-- The slots of the first two chunks. -/
abbrev slotI (i : Fin 2) : Fin 16 := ⟨i.val, by omega⟩
theorem st_set (c : Fin 16) : ((stS c).view.set : Finset S2x256x1024.Idx) = (stR c).set := by
  exact (View.set_reshape _ _).trans (View.set_slice_whole _ _)
/-- The elements of a slot. -/
abbrev stI (i : Fin 2) : Finset S2x256x1024.Idx := (stS (slotI i)).view.set
theorem st_disjoint (i j : Fin 2) (h : i ≠ j) : Disjoint (stI i) (stI j) := by
  unfold stI
  rw [st_set, st_set]
  refine Rect.unit_disjoint 0 ?_
  show i.val % 2 + 1 ≤ j.val % 2 ∨ j.val % 2 + 1 ≤ i.val % 2
  have : i.val ≠ j.val := fun h' => h (Fin.ext h')
  omega
theorem st_cover : Finset.univ.biUnion stI = Finset.univ := by
  refine Finset.eq_univ_iff_forall.mpr fun y => ?_
  have h0 : (y 0).val < 2 := (y 0).isLt
  have h1 : (y 1).val < 256 := (y 1).isLt
  have h2 : (y 2).val < 1024 := (y 2).isLt
  refine Finset.mem_biUnion.mpr ⟨⟨(y 0).val, h0⟩, Finset.mem_univ _, ?_⟩
  unfold stI
  rw [st_set]
  refine Rect.mem_set_unit.mpr fun a => ?_
  fin_cases a
  · show (y 0).val % 2 ≤ (y 0).val ∧ (y 0).val < (y 0).val % 2 + 1
    omega
  · show 0 ≤ (y 1).val ∧ (y 1).val < 0 + 256
    omega
  · show 0 ≤ (y 2).val ∧ (y 2).val < 0 + 1024
    omega

theorem st_split (d : Dev nD) (f : Buf (Elt F) ((d : Thread nD τ).loc cc0_scratch0)) :
    ((d : Thread nD τ).loc cc0_scratch0 ↦{fullShare} f : sProp 𝕄) ⊢ iprop(junk m (stS 0) d ∗ junk m (stS 1) d) := by
  rw [pointsTo_blocks (ℓ := (d : Thread nD τ).loc cc0_scratch0) stI st_disjoint st_cover f,
    bigSep_univ_eq_bigSepL [0, 1] (by decide) (by decide), bigSepL_cons', bigSepL_singleton]
  refine BIClass.sep_mono ?_ ?_
  · refine (Entails.of_eq (hold_of m (stS 0) d fullShare f)).trans ?_
    unfold junk; iintro H; iexists _; iexact H
  · refine (Entails.of_eq (hold_of m (stS 1) d fullShare f)).trans ?_
    unfold junk; iintro H; iexists _; iexact H
theorem st_join (d : Dev nD) :
    iprop(junk m (stS 0) d ∗ junk m (stS 1) d) ⊢ (iprop(∃ f, (d : Thread nD τ).loc cc0_scratch0 ↦{fullShare} f) : sProp 𝕄) := by
  refine BIBase.Entails.trans ?_
    (pointsTo_blocks_join_exists (ℓ := (d : Thread nD τ).loc cc0_scratch0) stI st_disjoint st_cover (m _))
  rw [bigSep_univ_eq_bigSepL [0, 1] (by decide) (by decide), bigSepL_cons', bigSepL_singleton]
  unfold junk hold
  iintro ⟨⟨%X, H0⟩, ⟨%Y, H1⟩⟩
  isplitl [H0]
  · iexists _; iexact H0
  · iexists _; iexact H1

/-! ## The block-sized arrays -/

/-- The quarter of a block that device `d` copies out as its `k`-th: its own, and its neighbours'. -/
def qt (d : Dev nD) (k : Fin 4) : ℕ := match k with
  | 0 => 2 * (d.val / 2 % 2) + d.val % 2
  | 1 => 2 * (1 - d.val / 2 % 2) + d.val % 2
  | 2 => 2 * (d.val / 2 % 2) + (1 - d.val % 2)
  | 3 => 3 - (2 * (d.val / 2 % 2) + d.val % 2)
theorem qt_lt : ∀ (d : Dev nD) (k : Fin 4), qt d k < 4 := by decide
theorem qt_inj : ∀ (d : Dev nD) (k l : Fin 4), qt d k = qt d l → k = l := by decide
theorem qt_surj : ∀ (d : Dev nD) (q : Fin 4), ∃ k, qt d k = q.val := by decide

theorem inb_q (d : Dev nD) (k : Fin 4) (c : Fin 16) : ∀ a, (![4096 * qt d k + 256 * c.val, 0] : Fin 2 → Nat) a + S256x1024.size a ≤ S16384x1024.size a := by
  have := qt_lt d k
  intro a
  fin_cases a
  · show 4096 * qt d k + 256 * c.val + 256 ≤ 16384
    omega
  · show 0 + 1024 ≤ 1024
    omega
/-- Chunk `c` of that quarter. -/
abbrev qR (d : Dev nD) (kc : Fin 4 × Fin 16) : Rect S16384x1024 :=
  Rect.unit (s := S16384x1024) ![4096 * qt d kc.1 + 256 * kc.2.val, 0] S256x1024.size (inb_q d kc.1 kc.2)

theorem q_disjoint (d : Dev nD) (i j : Fin 4 × Fin 16) (h : i ≠ j) : Disjoint (qR d i).set (qR d j).set :=
  Rect.unit_disjoint 0 (by
    show 4096 * qt d i.1 + 256 * i.2.val + 256 ≤ 4096 * qt d j.1 + 256 * j.2.val
      ∨ 4096 * qt d j.1 + 256 * j.2.val + 256 ≤ 4096 * qt d i.1 + 256 * i.2.val
    by_cases hk : i.1 = j.1
    · have : i.2.val ≠ j.2.val := fun h' => h (Prod.ext hk (Fin.ext h'))
      rw [hk]; omega
    · have : qt d i.1 ≠ qt d j.1 := fun h' => hk (qt_inj d _ _ h')
      omega)
theorem q_cover (d : Dev nD) (x : S16384x1024.Idx) : ∃ i, x ∈ (qR d i).set := by
  have h0 : (x 0).val < 16384 := (x 0).isLt
  have h1 : (x 1).val < 1024 := (x 1).isLt
  obtain ⟨k, hk⟩ := qt_surj d ⟨(x 0).val / 4096, by omega⟩
  have hk' : qt d k = (x 0).val / 4096 := hk
  refine ⟨(k, ⟨(x 0).val % 4096 / 256, by omega⟩), Rect.mem_set_unit.mpr fun a => ?_⟩
  fin_cases a
  · show 4096 * qt d k + 256 * ((x 0).val % 4096 / 256) ≤ (x 0).val ∧ (x 0).val < 4096 * qt d k + 256 * ((x 0).val % 4096 / 256) + 256
    rw [hk']; omega
  · show 0 ≤ (x 1).val ∧ (x 1).val < 0 + 1024
    omega

theorem off1_eq (d : Dev nD) (c : Fin 16) : k0_off1 d (cw c) = ![4096 * qt d 0 + 256 * c.val, 0] :=
  (k0_off1_eq d c).trans (congrArg (fun n : ℕ => (![n, 0] : Fin 2 → ℕ)) (by
    show 8192 * ((d.val / 2) % 2) + 4096 * (d.val % 2) + 256 * c.val = 4096 * (2 * (d.val / 2 % 2) + d.val % 2) + 256 * c.val
    omega))
theorem off2_eq (d : Dev nD) (c : Fin 16) : k0_off2 d (cw c) = ![4096 * qt d 1 + 256 * c.val, 0] :=
  (k0_off2_eq d c).trans (congrArg (fun n : ℕ => (![n, 0] : Fin 2 → ℕ)) (by
    show (4096 * (d.val % 2) + 256 * c.val + 8192) - 8192 * ((d.val / 2) % 2) = 4096 * (2 * (1 - d.val / 2 % 2) + d.val % 2) + 256 * c.val
    omega))
theorem off3_eq (d : Dev nD) (c : Fin 16) : k0_off3 d (cw c) = ![4096 * qt d 2 + 256 * c.val, 0] :=
  (k0_off3_eq d c).trans (congrArg (fun n : ℕ => (![n, 0] : Fin 2 → ℕ)) (by
    show (8192 * ((d.val / 2) % 2) + 256 * c.val + 4096) - 4096 * (d.val % 2) = 4096 * (2 * (d.val / 2 % 2) + (1 - d.val % 2)) + 256 * c.val
    omega))
theorem off4_eq (d : Dev nD) (c : Fin 16) : k0_off4 d (cw c) = ![4096 * qt d 3 + 256 * c.val, 0] :=
  (k0_off4_eq d c).trans (congrArg (fun n : ℕ => (![n, 0] : Fin 2 → ℕ)) (by
    show (256 * c.val + 12288) - (8192 * ((d.val / 2) % 2) + 4096 * (d.val % 2)) = 4096 * (3 - (2 * (d.val / 2 % 2) + d.val % 2)) + 256 * c.val
    omega))

/-- Chunk `c` of the `k`-th quarter of an array. -/
abbrev qS {e : EltTy} (b : Memref sig .tc .hbm S16384x1024 e) (d : Dev nD) (kc : Fin 4 × Fin 16) : Memref sig .tc .hbm S256x1024 e :=
  b.slice (qR d kc) (fun _ => rfl)

theorem slice_of {e : EltTy} (b : Memref sig .tc .hbm S16384x1024 e) (d : Dev nD) (k : Fin 4) (c : Fin 16) (off : Fin 2 → ℕ)
    (h : off = ![4096 * qt d k + 256 * c.val, 0]) (inb) :
    b.slice (Rect.unit (s := S16384x1024) off S256x1024.size inb) (fun _ => rfl) = qS b d (k, c) := by
  subst h; rfl
theorem xS_eq (d : Dev nD) (c : Fin 16) : xS d c = qS xM d (0, c) := slice_of xM d 0 c _ (off1_eq d c) _
theorem oS1_eq (d : Dev nD) (c : Fin 16) : oS1 d c = qS oM d (0, c) := slice_of oM d 0 c _ (off1_eq d c) _
theorem oS2_eq (d : Dev nD) (c : Fin 16) : oS2 d c = qS oM d (1, c) := slice_of oM d 1 c _ (off2_eq d c) _
theorem oS3_eq (d : Dev nD) (c : Fin 16) : oS3 d c = qS oM d (2, c) := slice_of oM d 2 c _ (off3_eq d c) _
theorem oS4_eq (d : Dev nD) (c : Fin 16) : oS4 d c = qS oM d (3, c) := slice_of oM d 3 c _ (off4_eq d c) _

theorem quarters (Φ : Fin 4 × Fin 16 → sProp 𝕄) :
    bigSep Finset.univ Φ = iprop((bigSepL all16 fun c => Φ (0, c)) ∗ (bigSepL all16 fun c => Φ (1, c))
      ∗ (bigSepL all16 fun c => Φ (2, c)) ∗ (bigSepL all16 fun c => Φ (3, c))) := by
  rw [bigSep_univ_prod, bigSep_univ_eq_bigSepL [0, 1, 2, 3] (by decide) (by decide), bigSepL_cons', bigSepL_cons', bigSepL_cons', bigSepL_singleton]
  simp only [chain16]

/-- The part of its block a device does not read itself. -/
def restX (d : Dev nD) : sProp 𝕄 :=
  iprop((bigSepL all16 fun c => hold m (qS xM d (1, c)) d fullShare ((qS xM d (1, c)).view.read (Elt F) (m ((d : Thread nD τ).loc main_arg0))))
    ∗ (bigSepL all16 fun c => hold m (qS xM d (2, c)) d fullShare ((qS xM d (2, c)).view.read (Elt F) (m ((d : Thread nD τ).loc main_arg0))))
    ∗ (bigSepL all16 fun c => hold m (qS xM d (3, c)) d fullShare ((qS xM d (3, c)).view.read (Elt F) (m ((d : Thread nD τ).loc main_arg0)))))

theorem x_of (d : Dev nD) (c : Fin 16) (off : Fin 2 → ℕ) (h : off = ![4096 * qt d 0 + 256 * c.val, 0]) (inb) :
    hold m (xM.slice (Rect.unit (s := S16384x1024) off S256x1024.size inb) (fun _ => rfl)) d fullShare
        ((xM.slice (Rect.unit (s := S16384x1024) off S256x1024.size inb) (fun _ => rfl)).view.read (Elt F) (m ((d : Thread nD τ).loc main_arg0)))
      = hold m (qS xM d (0, c)) d fullShare ((qS xM d (0, c)).view.read (Elt F) (m ((d : Thread nD τ).loc main_arg0))) := by
  subst h; rfl
theorem x_split (d : Dev nD) :
    ((d : Thread nD τ).loc main_arg0 ↦{fullShare} m ((d : Thread nD τ).loc main_arg0) : sProp 𝕄)
      = iprop((bigSepL all16 fun c => hold m (xS d c) d fullShare (X m d c)) ∗ restX m d) := by
  have h : (bigSepL all16 fun c => hold m (xS d c) d fullShare (X m d c) : sProp 𝕄)
      = bigSepL all16 fun c => hold m (qS xM d (0, c)) d fullShare ((qS xM d (0, c)).view.read (Elt F) (m ((d : Thread nD τ).loc main_arg0))) :=
    congrArg (bigSepL all16) (funext fun c => x_of m d c _ (off1_eq d c) _)
  rw [h]
  exact (rect_split m xM (View.set_whole _) d (qR d) (fun _ _ => rfl) (q_disjoint d) (q_cover d) _).trans (quarters _)

/-- The device whose quarter of the result the `q`-th is, among those with device `d`'s block. -/
def own (d : Dev nD) (q : ℕ) : Dev nD := ⟨4 * (d.val / 4) + q % 4, by have : d.val < 8 := d.isLt; show _ < 8; omega⟩
theorem own_qt0 : ∀ d : Dev nD, own d (qt d 0) = d := by decide
theorem own_qt1 : ∀ d : Dev nD, own d (qt d 1) = yn d := by decide
theorem own_qt2 : ∀ d : Dev nD, own d (qt d 2) = zn d := by decide
theorem own_qt3 : ∀ d : Dev nD, own d (qt d 3) = zn (yn d) := by decide

/-- The position (`r`, `l`) of a chunk. -/
def pos (r : Fin 256) (l : Fin 1024) : S256x1024.Idx := fun a => match a with
  | ⟨0, _⟩ => r
  | ⟨1, _⟩ => l

/-- What device `d`'s result holds at the end. -/
def OUT (d : Dev nD) : S16384x1024.Idx → Elt F .bf16 := fun i =>
  A m (own d ((i 0).val / 4096)) ⟨(i 0).val % 4096 / 256, by omega⟩ (pos ⟨(i 0).val % 256, by omega⟩ (i 1))

theorem OUT_at (d : Dev nD) (k : Fin 4) (c : Fin 16) (i : S16384x1024.Idx) (x : S256x1024.Idx)
    (h0 : (i 0).val = 4096 * qt d k + 256 * c.val + (x 0).val) (h1 : (i 1).val = (x 1).val) :
    OUT m d i = A m (own d (qt d k)) c x := by
  have hx : (x 0).val < 256 := (x 0).isLt
  have hk := qt_lt d k
  have e1 : (i 0).val / 4096 = qt d k := by omega
  have e2 : (⟨(i 0).val % 4096 / 256, by omega⟩ : Fin 16) = c := Fin.ext (by show (i 0).val % 4096 / 256 = c.val; omega)
  have e3 : (pos ⟨(i 0).val % 256, by omega⟩ (i 1) : S256x1024.Idx) = x := by
    funext a
    fin_cases a
    · exact Fin.ext (by show (i 0).val % 256 = (x 0).val; omega)
    · exact Fin.ext h1
  unfold OUT
  rw [e1, e2, e3]

theorem OUT_read (d : Dev nD) (k : Fin 4) (c : Fin 16) :
    (qS oM d (k, c)).view.read (Elt F) (OUT m d) = A m (own d (qt d k)) c := by
  funext x
  exact OUT_at m d k c ((qR d (k, c)).emb x) x
    (by show 4096 * qt d k + 256 * c.val + 1 * (x 0).val = _; omega) (by show 0 + 1 * (x 1).val = _; omega)

theorem o_join (d : Dev nD) :
    iprop((bigSepL all16 fun c => hold m (oS1 d c) d fullShare (A m d c)) ∗ (bigSepL all16 fun c => hold m (oS2 d c) d fullShare (A m (yn d) c))
      ∗ (bigSepL all16 fun c => hold m (oS3 d c) d fullShare (A m (zn d) c)) ∗ (bigSepL all16 fun c => hold m (oS4 d c) d fullShare (A m (zn (yn d)) c)))
      = ((d : Thread nD τ).loc main_v1 ↦{fullShare} OUT m d : sProp 𝕄) := by
  have h : ∀ (k : Fin 4) (e : Dev nD), own d (qt d k) = e →
      (bigSepL all16 fun c => hold m (qS oM d (k, c)) d fullShare (A m e c) : sProp 𝕄)
        = bigSepL all16 fun c => hold m (qS oM d (k, c)) d fullShare ((qS oM d (k, c)).view.read (Elt F) (OUT m d)) := fun k e he => by
    subst he
    exact congrArg (bigSepL all16) (funext fun c => congrArg (hold m _ d fullShare) (OUT_read m d k c).symm)
  simp only [oS1_eq, oS2_eq, oS3_eq, oS4_eq]
  rw [h 0 _ (own_qt0 d), h 1 _ (own_qt1 d), h 2 _ (own_qt2 d), h 3 _ (own_qt3 d)]
  exact ((rect_split m oM (View.set_whole _) d (qR d) (fun _ _ => rfl) (q_disjoint d) (q_cover d) _).trans (quarters _)).symm

theorem o_split (d : Dev nD) (f : Buf (Elt F) ((d : Thread nD τ).loc main_v1)) :
    ((d : Thread nD τ).loc main_v1 ↦{fullShare} f : sProp 𝕄)
      ⊢ iprop((bigSepL all16 fun c => junk m (oS1 d c) d) ∗ (bigSepL all16 fun c => junk m (oS2 d c) d)
        ∗ (bigSepL all16 fun c => junk m (oS3 d c) d) ∗ (bigSepL all16 fun c => junk m (oS4 d c) d)) := by
  refine (Entails.of_eq (rect_split m oM (View.set_whole _) d (qR d) (fun _ _ => rfl) (q_disjoint d) (q_cover d) f)).trans ?_
  rw [quarters]
  simp only [oS1_eq, oS2_eq, oS3_eq, oS4_eq]
  have h : ∀ k : Fin 4, (bigSepL all16 fun c => hold m (qS oM d (k, c)) d fullShare ((qS oM d (k, c)).view.read (Elt F) f))
      ⊢ bigSepL all16 fun c => junk m (qS oM d (k, c)) d := fun k => bigSepL_mono fun c _ => by
    unfold junk; iintro H; iexists _; iexact H
  exact BIClass.sep_mono (h 0) (BIClass.sep_mono (h 1) (BIClass.sep_mono (h 2) (h 3)))

end Cert.KernelIdeal

end
-- ==== Proof.Deal.lean ====
module

public import proofs.«01_k».proof.Proof.Parts

/-!
# What the launch deals

The cells' invariants, positions and tokens, dealt so that each device holds the tokens of the duties it pays; and the
credits for what its neighbours owe it.
-/

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-- The kernel's own semaphores. -/
abbrev osem (q : DmaSem sig) : SemLoc sig := .dma q
theorem ownSemFacts : Pipeline.OwnSemFacts cfg0.spec osem where
  isScoped := by decide
  inj := fun a b h => by injection h
  disj := fun k w => w.elim0

/-! ## The cells, one by one -/

def dmaL : List (DmaSem sig) :=
  all16.map (sm cc0_scratch6) ++ (all16.map (sm cc0_scratch7) ++ (all16.map (sm cc0_scratch8) ++ (all16.map (sm cc0_scratch9)
    ++ (all16.map (sm cc0_scratch10) ++ (all16.map (sm cc0_scratch11) ++ (all16.map (sm cc0_scratch12)
    ++ (all8.map (sh cc0_scratch13) ++ (all8.map (sh cc0_scratch14) ++ (all8.map (sh cc0_scratch15) ++ (all8.map (sh cc0_scratch16)
    ++ (all16.map (sm cc0_scratch17) ++ (all16.map (sm cc0_scratch18) ++ (all16.map (sm cc0_scratch19) ++ all16.map (sm cc0_scratch20))))))))))))))
theorem dmaL_nodup : dmaL.Nodup := by decide +kernel
theorem dmaL_mem : ∀ q : DmaSem sig, q ∈ dmaL := by decide +kernel
theorem dmaL_univ : Finset.univ = dmaL.toFinset :=
  (Finset.eq_univ_iff_forall.mpr fun q => List.mem_toFinset.mpr (dmaL_mem q)).symm

theorem cells_eq (Φ : DmaSem sig → sProp 𝕄) : bigSep Finset.univ Φ = cells Φ := by
  rw [bigSep_univ_eq_bigSepL dmaL dmaL_univ dmaL_nodup]
  unfold dmaL cells
  simp only [bigSepL_append, bigSepL_map]

theorem bigSep_opt {B : Type} [Fintype B] (Φ : Option B → sProp 𝕄) :
    bigSep Finset.univ Φ = iprop(Φ none ∗ bigSep Finset.univ fun b => Φ (some b)) := by
  rw [bigSep_univ_equiv (Equiv.optionEquivSumPUnit.{0, 0} B).symm Φ, bigSep_univ_sum,
    show (bigSep Finset.univ fun b : PUnit.{1} => Φ ((Equiv.optionEquivSumPUnit.{0, 0} B).symm (.inr b))) = Φ none from
      (bigSep_univ_eq_bigSepL [PUnit.unit] (by decide) (by decide) _).trans (bigSepL_singleton _ _)]
  exact both BI.sep_comm BI.sep_comm

/-! ## Minting -/

theorem kcell_injective : Function.Injective (kcell : Dev nD × Option (DmaSem sig) → GSem nD τ sig) := by
  rintro ⟨c, k⟩ ⟨c', k'⟩ h
  have h1 : c = c' := by
    have h1 := congrArg (fun g : GSem nD τ sig => g.1.1) h
    cases k <;> cases k' <;> exact h1
  subst h1
  have h2 := congrArg Prod.snd h
  cases k <;> cases k'
  · rfl
  · cases h2
  · cases h2
  · injection h2 with h2; rw [h2]
def kcells : Finset (GSem nD τ sig) := Finset.univ.map ⟨kcell, kcell_injective⟩

/-- The duties: three on a barrier cell, one on a DMA cell. -/
abbrev tokOf (ck : Dev nD × (Fin 3 ⊕ DmaSem sig)) : GSem nD τ sig × ℕ × Fin 3 :=
  match ck.2 with | .inl i => (bar ck.1, 0, i) | .inr q => (cel ck.1 q, 0, 0)
theorem tokOf_injective : Function.Injective (tokOf : Dev nD × (Fin 3 ⊕ DmaSem sig) → GSem nD τ sig × ℕ × Fin 3) := by
  rintro ⟨c, k⟩ ⟨c', k'⟩ h
  have h1 : c = c' := by
    have h1 := congrArg (fun x : GSem nD τ sig × ℕ × Fin 3 => x.1.1.1) h
    rcases k with k | k <;> rcases k' with k' | k' <;> exact h1
  subst h1
  have h2 := congrArg (fun x : GSem nD τ sig × ℕ × Fin 3 => (x.1.2, x.2.2)) h
  rcases k with k | k <;> rcases k' with k' | k'
  · have h3 : k = k' := congrArg Prod.snd h2
    rw [h3]
  · cases congrArg Prod.fst h2
  · cases congrArg Prod.fst h2
  · have h3 : (SemLoc.dma k : SemLoc sig) = .dma k' := congrArg Prod.fst h2
    injection h3 with h3; rw [h3]
def ktoks : Finset (GSem nD τ sig × ℕ × Fin 3) := Finset.univ.map ⟨tokOf, tokOf_injective⟩

def u₀ : UU :=
  (initOf (Pipeline.cells cfgs cellOf_inj) (Pipeline.launchToks cfgs cellOf_inj), initOf kcells ktoks)

/-- The tokens of the duties on a device's own cells. -/
def own3 (c : Dev nD) : sProp 𝕄 := iprop(dutyTok ER (bar c) 0 0 ∗ dutyTok ER (bar c) 0 1 ∗ dutyTok ER (bar c) 0 2)
def toks (c : Dev nD) : sProp 𝕄 := iprop(own3 c ∗ cells (tk c))
/-- Its positions. -/
def poss (c : Dev nD) : sProp 𝕄 := iprop(atPos ER (bar c) 0 ∅ 0 ∗ cells (att c))

/-- What the launch element deals a device. -/
def G (c : Dev nD) : sProp 𝕄 :=
  iprop((bigSep Finset.univ fun k : Option (DmaSem sig) => roundState ER (rd m) (kcell (c, k)) 0)
    ∗ (bigSep Finset.univ fun k : Option (DmaSem sig) => reached ER (kcell (c, k)) 0) ∗ poss c ∗ toks c)
/-- What is made of it. -/
def G' (c : Dev nD) : sProp 𝕄 := iprop(recs m ∗ poss c ∗ Toks c)

theorem toks_eq (c : Dev nD) :
    (bigSep Finset.univ fun k : Fin 3 ⊕ DmaSem sig => (dutyTok ER (tokOf (c, k)).1 (tokOf (c, k)).2.1 (tokOf (c, k)).2.2 : sProp 𝕄)) = toks c := by
  unfold toks own3
  rw [bigSep_univ_sum, ← cells_eq, bigSep_univ_eq_bigSepL [0, 1, 2] (by decide) (by decide), bigSepL_cons', bigSepL_cons', bigSepL_singleton]
  rfl
theorem poss_eq (c : Dev nD) :
    (bigSep Finset.univ fun k : Option (DmaSem sig) => (atPos ER (kcell (c, k)) 0 ∅ 0 : sProp 𝕄)) = poss c := by
  unfold poss
  rw [bigSep_opt, ← cells_eq]; rfl

theorem fund_k : BI.own (ER (initOf kcells ktoks)) ⊢ (|==> bigSep Finset.univ (G m) : sProp 𝕄) := by
  have hX (Φ : GSem nD τ sig → sProp 𝕄) :
      bigSep kcells Φ = bigSep Finset.univ fun c : Dev nD => bigSep Finset.univ fun k : Option (DmaSem sig) => Φ (kcell (c, k)) := by
    unfold kcells; rw [bigSep_map, bigSep_univ_prod]; rfl
  have hT : bigSep ktoks (fun x => (dutyTok ER x.1 x.2.1 x.2.2 : sProp 𝕄)) = bigSep Finset.univ fun c : Dev nD => toks c := by
    unfold ktoks; rw [bigSep_map, bigSep_univ_prod]
    exact bigSep_congr fun c _ => toks_eq c
  have hP : bigSep kcells (fun g => (atPos ER g 0 ∅ 0 : sProp 𝕄)) = bigSep Finset.univ fun c : Dev nD => poss c := by
    rw [hX]; exact bigSep_congr fun c _ => poss_eq c
  iintro HX
  imod (Rounds.fund ER (rd m) kcells ktoks) $$ HX with ⟨Hst, Hr, Hat, Htok⟩
  imodintro
  ihave Hst' := (Entails.of_eq (hX fun g => roundState ER (rd m) g 0)) $$ Hst
  ihave Hr' := (Entails.of_eq (hX fun g => reached ER g 0)) $$ Hr
  ihave Hat' := (Entails.of_eq hP) $$ Hat
  ihave Htok' := (Entails.of_eq hT) $$ Htok
  unfold G; simp only [bigSep_sep']
  isplitl [Hst']; · iexact Hst'
  isplitl [Hr']; · iexact Hr'
  isplitl [Hat']; · iexact Hat'
  iexact Htok'

/-! ## The semaphores at zero -/

theorem unscopedSems0_eq (c : Dev nD) : (unscopedSems0 c : sProp 𝕄) = semVal (bar c) 0 := by
  unfold unscopedSems0; rw [bigSep_eq_bigSepL_of_eq [SemLoc.reg barS.sem] (by decide) (by decide)]; rfl
theorem ownSems0_eq (c : Dev nD) :
    (Pipeline.ownSems0 (Ix := Unit) (Name := ℕ) (U := UU) (Lvl := ℕ) (Val := Elt F) (τ := τ) osem c : sProp 𝕄) = cells (zer c) := by
  rw [← cells_eq]; rfl
theorem sems0_eq (c : Dev nD) :
    (bigSep Finset.univ fun k : Option (DmaSem sig) => (semVal (kcell (c, k)) 0 : sProp 𝕄)) = iprop(semVal (bar c) 0 ∗ cells (zer c)) := by
  rw [bigSep_opt, ← cells_eq]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k : Option (DmaSem sig) => reached ER (kcell (c, k)) 0) ∗ poss c ∗ toks c) := by
  unfold G
  rw [ownSems0_eq, unscopedSems0_eq]
  iintro ⟨Hos, Hus, Hst, Hr, Hat, Htok⟩
  ihave Hv := (Entails.of_eq (sems0_eq (F := F) c).symm) $$ [Hos Hus]
  · iframe
  imod (show iprop((bigSep Finset.univ fun k : Option (DmaSem sig) => semVal (kcell (c, k)) 0)
        ∗ bigSep Finset.univ fun k : Option (DmaSem sig) => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-! ## Around the mesh -/

def xe : Dev nD ≃ Dev nD := ⟨xn, xn, xn_xn, xn_xn⟩
def ye : Dev nD ≃ Dev nD := ⟨yn, yn, yn_yn, yn_yn⟩
def ze : Dev nD ≃ Dev nD := ⟨zn, zn, zn_zn, zn_zn⟩

theorem toks_around : (bigSep Finset.univ fun c : Dev nD => (toks c : sProp 𝕄)) = bigSep Finset.univ fun c : Dev nD => Toks c := by
  unfold toks own3 cells Toks
  simp only [bigSep_sep']
  rw [bigSep_univ_equiv xe (fun c : Dev nD => (dutyTok ER (bar c) 0 0 : sProp 𝕄)),
    bigSep_univ_equiv ye (fun c : Dev nD => (dutyTok ER (bar c) 0 1 : sProp 𝕄)),
    bigSep_univ_equiv ze (fun c : Dev nD => (dutyTok ER (bar c) 0 2 : sProp 𝕄)),
    bigSep_univ_equiv xe (fun c : Dev nD => (bigSepL all16 fun k => tk c (sm cc0_scratch8 k) : sProp 𝕄)),
    bigSep_univ_equiv ye (fun c : Dev nD => (bigSepL all16 fun k => tk c (sm cc0_scratch10 k) : sProp 𝕄)),
    bigSep_univ_equiv ze (fun c : Dev nD => (bigSepL all16 fun k => tk c (sm cc0_scratch12 k) : sProp 𝕄)),
    bigSep_univ_equiv ye (fun c : Dev nD => (bigSepL all8 fun k => tk c (sh cc0_scratch14 k) : sProp 𝕄)),
    bigSep_univ_equiv ze (fun c : Dev nD => (bigSepL all8 fun k => tk c (sh cc0_scratch16 k) : sProp 𝕄))]
  rfl

theorem with_all {I : Type} [DecidableEq I] {S : Finset I} {R : sProp 𝕄} [BI.Persistent R] {Φ : I → sProp 𝕄} :
    iprop(R ∗ bigSep S Φ) ⊢ bigSep S fun i => iprop(R ∗ Φ i) := by
  rw [bigSep_sep']
  exact sep_mono_left (BI.bigSep_of_persistent S R)

theorem regroup :
    (bigSep Finset.univ fun c : Dev nD => iprop((bigSep Finset.univ fun k => iprop(∃ κ : ℕ, cellInv ER (rd m) κ (kcell (c, k))))
          ∗ (bigSep Finset.univ fun k : Option (DmaSem sig) => reached ER (kcell (c, k)) 0) ∗ poss c ∗ toks c) : sProp 𝕄)
      ⊢ bigSep Finset.univ (G' m) := by
  simp only [bigSep_sep']
  rw [toks_around]
  iintro ⟨HI, HR, Hat, Htok⟩
  iapply (with_all (R := recs m) (Φ := fun c : Dev nD => iprop(poss c ∗ Toks c)))
  isplitl [HI HR]
  · unfold recs
    rw [bigSep_univ_prod]
    simp only [bigSep_sep']
    isplitl [HI] <;> iassumption
  · rw [bigSep_sep']
    isplitl [Hat] <;> iassumption

theorem glob : (bigSep Finset.univ fun c => iprop(Pipeline.ownSems0 (Ix := Unit) (Name := ℕ) (U := UU) (Lvl := ℕ) (Val := Elt F) (τ := τ) osem c
      ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem lc_sum {α : Type} (l : List α) (f : Dev nD → α → Owed) (c : Dev nD) (R : α → sProp 𝕄)
    (h : ∀ a, (Pipeline.launchCred (fun d => f d a) c : sProp 𝕄) ⊢ R a) :
    (Pipeline.launchCred (fun d => sumL l (f d)) c : sProp 𝕄) ⊢ bigSepL l R := by
  induction l with
  | nil =>
    rw [bigSepL_nil]
    exact Entails.of_eq (Pipeline.launchCred_zero c)
  | cons a l ih =>
    rw [bigSepL_cons', show (fun d => sumL (a :: l) (f d)) = fun d => f d a + sumL l (f d) from funext fun d => sumL_cons a l (f d),
      Pipeline.launchCred_add]
    exact BIClass.sep_mono (h a) ih

theorem lc_dma (p : Dev nD → Dev nD) (hp : ∀ d, p (p d) = d) (q : DmaSem sig) (hq : amt (kindOf q) = N) (c : Dev nD) :
    (Pipeline.launchCred (fun d => (tallyAt (cel (p d) q) () N : Owed)) c : sProp 𝕄) ⊢ cr c q := by
  unfold cr; rw [hq]
  exact Pipeline.launchCred_tallyAt (.dma q) p p hp hp () N c

theorem lc_two (f g : Dev nD → Owed) (c : Dev nD) (P Q : sProp 𝕄) (h : (Pipeline.launchCred f c : sProp 𝕄) ⊢ P) (h' : (Pipeline.launchCred g c : sProp 𝕄) ⊢ Q) :
    (Pipeline.launchCred (fun d => f d + g d) c : sProp 𝕄) ⊢ iprop(P ∗ Q) := by
  rw [Pipeline.launchCred_add]; exact BIClass.sep_mono h h'

theorem creds (c : Dev nD) : (Pipeline.launchCred O₀ c : sProp 𝕄) ⊢ Creds c := by
  have h1 := lc_sum (F := F) all16 t1 c (fun k => cr c (sm cc0_scratch8 k)) fun k => lc_dma xn xn_xn _ (by rw [k_s1r]; rfl) c
  have h2 := lc_sum (F := F) all16 t2 c (fun k => iprop(cr c (sm cc0_scratch10 k) ∗ cr c (sm cc0_scratch12 k))) fun k =>
    lc_two (fun d => t2y d k) (fun d => t2z d k) c _ _ (lc_dma yn yn_yn _ (by rw [k_yr]; rfl) c) (lc_dma zn zn_zn _ (by rw [k_zr]; rfl) c)
  have h3 := lc_sum (F := F) all8 t3 c (fun k => cr c (sh cc0_scratch14 k)) fun k => lc_dma yn yn_yn _ (by rw [k_y3r]; rfl) c
  have h4 := lc_sum (F := F) all8 t4 c (fun k => cr c (sh cc0_scratch16 k)) fun k => lc_dma zn zn_zn _ (by rw [k_z3r]; rfl) c
  have hb (p : Dev nD → Dev nD) (hp : ∀ d, p (p d) = d) :
      (Pipeline.launchCred (fun d => (tallyAt (bar (p d)) () 1 : Owed)) c : sProp 𝕄) ⊢ cred (tallyAt (bar c) () 1) :=
    Pipeline.launchCred_tallyAt (.reg barS.sem) p p hp hp () 1 c
  have h := lc_two (F := F) _ _ c _ _ (lc_two _ _ c _ _ (lc_two _ _ c _ _
    (lc_two _ _ c _ _ h1 (lc_two _ _ c _ _ h2 (lc_two _ _ c _ _ h3 h4))) (hb zn zn_zn)) (hb yn yn_yn)) (hb xn xn_xn)
  refine BIBase.Entails.trans h ?_
  unfold Creds
  rw [show (tallyAt (bar c) () 3 : Owed) = tallyAt (bar c) () 1 + (tallyAt (bar c) () 1 + tallyAt (bar c) () 1) by rw [tallyAt_add, tallyAt_add]]
  simp only [bigSepL_sep]
  iintro ⟨⟨⟨⟨H1, ⟨H2, H2'⟩, H3, H4⟩, Hz⟩, Hy⟩, Hx⟩
  isplitl [Hx Hy Hz]
  · iapply (cred_add _ _).2
    isplitl [Hx]; · iexact Hx
    iapply (cred_add _ _).2
    isplitl [Hy] <;> iassumption
  iframe

end Cert.KernelIdeal

end
-- ==== Proof.Launch.lean ====
module

public import proofs.«01_k».proof.Proof.Deal
public import Idealize.ShloMosaic.Lib.Pipeline.CollectiveSegs

/-!
# The run

From any memory with zero counters: the block is unchanged, each result holds `OUT`, and every counter is zero again.
-/

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

open Idealize.ShloMosaic.Pipeline (Dat BodyObligation)

variable (ρ : Dev nD → PrngReg)

/-- A device's state before its kernel, -/
def Φ₀ (c : Dev nD) : sProp 𝕄 :=
  iprop(ctx m ∗ restX m c ∗ Start m c ∗ Toks c ∗ cells (att c) ∗ atPos ER (bar c) 0 ∅ 0 ∗ Creds c)
/-- and after it. -/
def Φ₁ (c : Dev nD) : sProp 𝕄 := iprop(restX m c ∗ Ends m c ∗ cells (zer c) ∗ semVal (bar c) 0)

def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem kernel_runs (d : Dev nD) (Φ : PUnit → sProp 𝕄) : runs d (kernelAt (F := F) d) Φ ⊢ runs d kernelP Φ := by
  refine Entails.of_eq ?_
  unfold runs kernelP
  simp only [Prog.lift, Prog.bind_op, Prog.bind_ret, wp_deviceId]

theorem kernel_step (c : Dev nD) :
    iprop(Φ₀ m c ∗ ow c (O₀ c)) ⊢ runs c kernelP (fun _ => iprop(Φ₁ m c ∗ ow c 0)) := by
  unfold Φ₀ Φ₁
  iintro ⟨⟨#HC, HX, HS, HT, Hat, HB, HCr⟩, HO⟩
  iapply (kernel_runs c)
  ihave H := (kernelAt_step m c) $$ [HS HT Hat HB HCr HO]
  · iframe; iexact HC
  ihave H' := (wp_wand frame _ _) $$ H
  iapply H'
  iintro %_ ⟨HE, HZ, Hb, HO⟩
  iframe

theorem no_windows (Φ : Fin cfg0.W → sProp 𝕄) : bigSep Finset.univ Φ = iprop(emp) := by
  rw [bigSep_univ_eq_bigSepL [] (by decide) (by decide), bigSepL_nil]; rfl

set_option maxRecDepth 100000 in
theorem body_obligation (c : Dev nD) : BodyObligation (dats (F := F) m 0 c) (defs₀ (F := F)) 𝒱₀ () Set.univ := fun t => by
  have ht := fin_N0 t
  subst ht
  rw [no_windows, no_windows]
  have h : iprop(Φ₀ m c ∗ (dats m 0 c).owesAt () t0_0.castSucc ∗ emp)
      ⊢ runs c (bodyAt0 t0_0) (fun _ => iprop(Φ₁ m c ∗ (dats m 0 c).owesAt () t0_0.succ ∗ emp)) := by
    rw [body_eq]
    unfold Dat.owesAt Pipeline.owesWithin
    iintro ⟨HF, ⟨%W, %hW, HO⟩, -⟩
    ihave H := (kernel_step m c) $$ [HF HO]
    · isplitl [HF]; · iexact HF
      unfold ow; iexists W; iexact HO
    ihave H' := (wp_wand frame _ _) $$ H
    iapply H'
    iintro %_ ⟨HF, HO⟩
    isplitl [HF]; · iexact HF
    unfold ow
    icases HO with ⟨%W', HO⟩
    isplitl
    · iexists W'
      isplitr; · ipureintro; exact fun _ _ => Or.inl trivial
      iexact HO
    · iempintro
  exact h

/-! ## Into and out of the kernel -/

/-- What a device is dealt, with its credits and its arrays. -/
def startX (c : Dev nD) : sProp 𝕄 :=
  iprop(G' m c ∗ levAts L lv ∗ Creds c ∗ ((c : Thread nD τ).loc main_arg0 ↦{fullShare} m ((c : Thread nD τ).loc main_arg0))
    ∗ ((c : Thread nD τ).loc main_v1 ↦{fullShare} m ((c : Thread nD τ).loc main_v1)))
/-- What it gives back. -/
def endY (c : Dev nD) : sProp 𝕄 :=
  iprop(((c : Thread nD τ).loc main_arg0 ↦{fullShare} m ((c : Thread nD τ).loc main_arg0))
    ∗ ((c : Thread nD τ).loc main_v1 ↦{fullShare} OUT m c) ∗ unscopedSems0 c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(startX m c ∗ emp) := by
  rw [Pipeline.unscopedRestP_none, unscopedRest0_eq]
  unfold startX
  iintro ⟨⟨Hx, Ho⟩, Hlev, Hcr, -, HG⟩
  ihave Hc := (creds (F := F) c) $$ Hcr
  imodintro
  isplitl
  · isplitl [HG]; · iexact HG
    isplitl [Hlev]; · iexact Hlev
    isplitl [Hc]; · iexact Hc
    isplitl [Hx]; · iexact Hx
    iexact Ho
  · iempintro

theorem phi0_intro (c : Dev nD) :
    iprop(startX m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold startX G' poss Φ₀ ctx Start
  iintro ⟨⟨⟨HR, ⟨HaB, Hat⟩, HT⟩, Hlev, HC, Hx, Ho⟩, -, ⟨%f0, B0⟩, ⟨%f1, B1⟩, ⟨%f2, B2⟩, ⟨%f3, B3⟩, ⟨%f4, B4⟩, ⟨%f5, B5⟩⟩
  ihave Hx' := (Entails.of_eq (x_split m c)) $$ Hx
  icases Hx' with ⟨Hx, Hrest⟩
  ihave Ho' := (o_split m c _) $$ Ho
  icases Ho' with ⟨O1, O2, O3, O4⟩
  ihave B0' := (st_split m c _) $$ B0
  icases B0' with ⟨S0, S1⟩
  ihave B1' := (buf_split m bQ (View.set_whole _) c f1) $$ B1
  ihave B2' := (buf_split m bA (View.set_whole _) c f2) $$ B2
  ihave B3' := (buf_split m bY (View.set_whole _) c f3) $$ B3
  ihave B4' := (buf_split m bZ (View.set_whole _) c f4) $$ B4
  ihave B5' := (buf_split m bD (View.set_whole _) c f5) $$ B5
  isplitl [HR Hlev]
  · isplitl [HR] <;> iassumption
  iframe

theorem phi1_exit (c : Dev nD) :
    (dats m 0 c).Φ (Fin.last cfg0.N) ⊢ iprop(endY m c ∗ Pipeline.ownSems0 osem c ∗ Pipeline.scopedRest cfg0.spec c) := by
  rw [show (dats m 0 c).Φ (Fin.last cfg0.N) = Φ₁ m c from rfl, scopedRest0_eq, ownSems0_eq]
  unfold endY Φ₁ Ends
  rw [unscopedSems0_eq, x_split, ← o_join]
  iintro ⟨HX, ⟨Hx, O1, O2, O3, O4, S0, S1, BQ, BA, BY, BZ, BD⟩, HZ, HB⟩
  isplitl [HX Hx O1 O2 O3 O4 HB]
  · iframe
  isplitl [HZ]; · iexact HZ
  isplitl [S0 S1]
  · iapply (st_join m c); isplitl [S0] <;> iassumption
  isplitl [BQ]; · iapply (buf_join m bQ (View.set_whole _) c); iexact BQ
  isplitl [BA]; · iapply (buf_join m bA (View.set_whole _) c); iexact BA
  isplitl [BY]; · iapply (buf_join m bY (View.set_whole _) c); iexact BY
  isplitl [BZ]; · iapply (buf_join m bZ (View.set_whole _) c); iexact BZ
  iapply (buf_join m bD (View.set_whole _) c); iexact BD

theorem waits (c : Dev nD) : (levAts L lv : sProp 𝕄) ⊢ Pipeline.cellsWaits cfgs (dats m) () 0 c :=
  Pipeline.cellsWaits_intro cfgs (dats m) () 0 c fun w s t => w.elim0

/-- What is read at the end on device `c`. -/
def atEnd (c : Dev nD) (s : MemSt nD τ sig (Elt F)) : Prop :=
  (s.mem ((c : Thread nD τ).loc main_arg0) = m ((c : Thread nD τ).loc main_arg0) ∧ s.mem ((c : Thread nD τ).loc main_v1) = OUT m c)
    ∧ ∀ sm : SemLoc sig, sm.isScoped .tc = false → s.sem ((c : Thread nD τ), sm) = 0

theorem end_read (c : Dev nD) (s' : Phys nD τ sig (Elt F)) :
    iprop(endY m c ∗ emp ∗ SI s') ⊢ |={Set.univ}=> iprop(⌜atEnd m c s'.mem⌝ ∗ SI s' : sProp 𝕄) := by
  unfold endY
  iintro ⟨⟨Hx, Ho, Hu⟩, -, HSI⟩
  icombine HSI Hx gives %hx
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro
    exact ⟨⟨Buf.eq_of_forall_mem_univ hx, Buf.eq_of_forall_mem_univ ho⟩, hu⟩
  · iexact HSI

set_option maxRecDepth 100000 in
theorem run_main : θ_run defs (onTc (τ := τ) (main (F := F))) ⟨m, fun _ => 0, ρ⟩ (fun r =>
    (∀ c : Dev nD, r.2.mem ((c : Thread nD τ).loc main_arg0) = m ((c : Thread nD τ).loc main_arg0) ∧ r.2.mem ((c : Thread nD τ).loc main_v1) = OUT m c)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_k m) $$ HX with HG
      imodintro
      isplitl [HP] <;> iassumption)
    (hglob := glob m)
    (hA := fun _ _ => rfl) (hpf := fun _ k => k.elim0)
    (X := startX m) (Y := endY m) (Z := fun _ => iprop(emp))
    (hX := start_intro m ρ) (hin := phi0_intro m) (hout := phi1_exit m)
    (QY := atEnd m)
    (hY := end_read m)
    (hQ := fun _ h hs => ⟨fun c => (h c).2.2.1, sem_eq_zero hs fun c => (h c).2.2.2⟩)

end Cert.KernelIdeal

end
-- ==== Proof.Value.lean ====
module

public import proofs.«01_k».proof.Proof.Launch
public import proofs.«01_k».proof.Proof.Gen.ReferenceIdeal.Run
public import Idealize.ShloMosaic.Lib.IdealHost
public import Idealize.ShloMosaic.Lib.Pointwise
public import Idealize.ShloMosaic.Lib.Pipeline.Value
public import Idealize.ShloMosaic.Lib.Layout

/-!
# The value

At `Ideal` a device's result is the sum of the two blocks of the whole argument, and so is the reference's.
-/

@[expose] public section

noncomputable section

namespace Cert.KernelIdeal

open Idealize.ShloMosaic Idealize.ShloMosaic.TcCoe
open Idealize.SL.Sem
open Cert.KernelIdeal.Gen

/-- The position in the whole argument of position `i` of block `k`. -/
def whole (k : Fin 2) (i : S16384x1024.Idx) : Cert.ReferenceIdeal.S32768x1024.Idx := fun a => match a with
  | ⟨0, _⟩ => ⟨16384 * k.val + (i 0).val, by have : (i 0).val < 16384 := (i 0).isLt; show _ < 32768; omega⟩
  | ⟨1, _⟩ => i 1

section Kernel

variable (m : (ℓ : Loc nD τ sig) → Buf (Elt Ideal) ℓ)

/-- A chunk, read off the device's block. -/
theorem X_at (d : Dev nD) (c : Fin 16) (i : S16384x1024.Idx) (x : S256x1024.Idx)
    (h0 : (i 0).val = 4096 * qt d 0 + 256 * c.val + (x 0).val) (h1 : (i 1).val = (x 1).val) :
    X m d c x = m ((d : Thread nD τ).loc main_arg0) i := by
  refine congrArg (m ((d : Thread nD τ).loc main_arg0)) (funext fun a => Fin.ext ?_)
  match a with
  | ⟨0, _⟩ =>
    refine Eq.trans (b := k0_off1 d (cw c) 0 + 1 * (x 0).val) rfl ?_
    rw [off1_eq, one_mul]; exact h0.symm
  | ⟨1, _⟩ =>
    refine Eq.trans (b := k0_off1 d (cw c) 1 + 1 * (x 1).val) rfl ?_
    rw [off1_eq, one_mul]; exact (Nat.zero_add _).trans h1.symm

theorem own_q : ∀ (d : Dev nD) (q : Fin 4),
    qt (own d q.val) 0 = q.val ∧ qt (xn (own d q.val)) 0 = q.val
      ∧ (own d q.val).val / 4 = d.val / 4 ∧ (xn (own d q.val)).val / 4 = 1 - d.val / 4 := by decide

/-- An entry, as an extended real. -/
abbrev ent (v : S16384x1024.Idx → Elt Ideal .f32) (i : S16384x1024.Idx) : EReal := v i

/-- A result entry is the sum of the entries there of two devices' blocks, one in each half of the mesh. -/
theorem OUT_sum (d : Dev nD) (i : S16384x1024.Idx) :
    ∃ e f : Dev nD, e.val / 4 = d.val / 4 ∧ f.val / 4 = 1 - d.val / 4 ∧
      OUT m d i = ent (m ((e : Thread nD τ).loc main_arg0)) i + ent (m ((f : Thread nD τ).loc main_arg0)) i := by
  have hi : (i 0).val < 16384 := (i 0).isLt
  obtain ⟨q0, q1, b0, b1⟩ := own_q d ⟨(i 0).val / 4096, by omega⟩
  refine ⟨_, _, b0, b1, ?_⟩
  have r : ∀ e : Dev nD, qt e 0 = (i 0).val / 4096 →
      X m e ⟨(i 0).val % 4096 / 256, by omega⟩ (pos ⟨(i 0).val % 256, by omega⟩ (i 1)) = m ((e : Thread nD τ).loc main_arg0) i :=
    fun e he => X_at m e _ i _
      (by rw [he]; show _ = 4096 * ((i 0).val / 4096) + 256 * ((i 0).val % 4096 / 256) + (i 0).val % 256; omega) rfl
  rw [ent, ent, ← r _ q0, ← r _ q1]
  rfl

/-- An entry of a device's block, in the whole argument. -/
theorem block_at (M : Cert.ReferenceIdeal.S32768x1024.Idx → EReal) (e : Dev nD) (k : Fin 2) (he : e.val / 4 = k.val) (i : S16384x1024.Idx) :
    (Layout.blockN ⟨2, ![16384, 1024]⟩ ⟨2, ![32768, 1024]⟩ (Layout.meshBlock [2, 2, 2] ![[0], []] e) M : S16384x1024.Idx → EReal) i = M (whole k i) := by
  refine congrArg M (funext fun a => Fin.ext ?_)
  match a with
  | ⟨0, _⟩ =>
    have hl : ∀ e : Dev nD, Layout.meshLin [2, 2, 2] e.val [0] = e.val / 4 := by decide
    refine Eq.trans (b := Layout.meshLin [2, 2, 2] e.val [0] * 16384 + (i 0).val) rfl ?_
    rw [hl, he, Nat.mul_comm]; rfl
  | ⟨1, _⟩ =>
    exact Nat.zero_add _

end Kernel

/-- The reference's result. -/
def REF (M : FVec Ideal Cert.ReferenceIdeal.S32768x1024 .f32) : FVec Ideal Cert.ReferenceIdeal.S16384x1024 .bf16 :=
  truncf .bf16 (Host.reduceAdd (extf .f32 (shapeCast _ (truncf .bf16 M
    Cert.ReferenceIdeal.Gen.bitsLt_bf16_f32) Cert.ReferenceIdeal.Gen.shapeCasts_S32768x1024_S2x16384x1024) Cert.ReferenceIdeal.Gen.bitsLt_bf16_f32)
    (constant Cert.ReferenceIdeal.S_ .f32 0x00000000#32) Cert.ReferenceIdeal.Gen.reducesTo_S2x16384x1024_S16384x1024_d0 Cert.ReferenceIdeal.Gen.h_S_)
    Cert.ReferenceIdeal.Gen.bitsLt_bf16_f32

theorem REF_at (M : FVec Ideal Cert.ReferenceIdeal.S32768x1024 .f32) (i : S16384x1024.Idx) :
    REF M i = (M (whole 0 i) + M (whole 1 i) : EReal) := by
  unfold REF
  rw [truncf_apply, Ideal.truncf_def, ValueIdx.hostReduceAdd_apply, Ideal.hostReduceAdd_r3_a0, Fin.sum_univ_two]
  have z : (constant Cert.ReferenceIdeal.S_ .f32 0x00000000#32 : FVec Ideal Cert.ReferenceIdeal.S_ .f32)
      (Shape.Idx.first Cert.ReferenceIdeal.Gen.h_S_) = (0 : EReal) := Ideal.ofBits_zero_f32
  have s : ∀ k : Fin 2, extf .f32 (shapeCast Cert.ReferenceIdeal.S2x16384x1024 (truncf .bf16 M
      Cert.ReferenceIdeal.Gen.bitsLt_bf16_f32) Cert.ReferenceIdeal.Gen.shapeCasts_S32768x1024_S2x16384x1024) Cert.ReferenceIdeal.Gen.bitsLt_bf16_f32
      (ValueIdx.ix3 k (i 0) (i 1)) = M (whole k i) := fun k => by
    rw [extf_apply, Ideal.extf_def, shapeCast_apply _ _ _ (whole k i), truncf_apply, Ideal.truncf_def]
    rw [Shape.rowMajor_val_two, Shape.rowMajor_val_three]
    show (16384 * k.val + (i 0).val) * 1024 + (i 1).val = (k.val * 16384 + (i 0).val) * 1024 + (i 1).val
    omega
  rw [z, zero_add]
  exact congrArg₂ (· + ·) (s 0) (s 1)

/-- Every device ends with the reference's result. -/
theorem OUT_ref (m : (ℓ : Loc nD τ sig) → Buf (Elt Ideal) ℓ) (M : FVec Ideal Cert.ReferenceIdeal.S32768x1024 .f32)
    (hm : ∀ c : Dev nD, m ((c : Thread nD τ).loc main_arg0)
      = Layout.blockN ⟨2, ![16384, 1024]⟩ ⟨2, ![32768, 1024]⟩ (Layout.meshBlock [2, 2, 2] ![[0], []] c) M) (d : Dev nD) :
    OUT m d = REF M := funext fun i => by
  obtain ⟨e, f, he, hf, h⟩ := OUT_sum m d i
  have hd : d.val < 8 := d.isLt
  rw [h, REF_at, hm e, hm f, ent, ent]
  rcases (by omega : d.val / 4 = 0 ∨ d.val / 4 = 1) with h4 | h4
  · rw [block_at M e 0 (he.trans h4), block_at M f 1 (by rw [hf, h4]; rfl)]
  · rw [block_at M e 1 (he.trans h4), block_at M f 0 (by rw [hf, h4]; rfl), add_comm]

end Cert.KernelIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel: its run leaves the argument unchanged and every counter at zero. -/
theorem frame_kernel : Cert.quiescent_Kernel := fun m ρ _ =>
  (θ_run Cert.KernelIdeal.defs _ _).mono (fun _ h => ⟨fun c => (h.1 c).1, h.2⟩) (Cert.KernelIdeal.run_main (F := Bits) m ρ)

/-- The same at `Ideal`. -/
theorem frame_ideal : Cert.quiescent_KernelIdeal := fun m ρ _ =>
  (θ_run Cert.KernelIdeal.defs _ _).mono (fun _ h => ⟨fun c => (h.1 c).1, h.2⟩) (Cert.KernelIdeal.run_main (F := Ideal) m ρ)

/-- The reference: a line of host operations, and no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's. -/
theorem value : Cert.algebraic_KernelIdeal_ReferenceIdeal := fun m ρ m' ρ' _ hm =>
  ⟨Cert.KernelIdeal.REF (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).2.trans (Cert.KernelIdeal.OUT_ref m _ hm c), (h.1 c).1⟩)
      (Cert.KernelIdeal.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
